-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x4096 : Shape := ⟨3, ![6, 2048, 4096]⟩
abbrev S6x2048x512 : Shape := ⟨3, ![6, 2048, 512]⟩
abbrev S8 : Shape := ⟨1, ![8]⟩
abbrev S7168x4096 : Shape := ⟨2, ![7168, 4096]⟩
abbrev S7168x512 : Shape := ⟨2, ![7168, 512]⟩
abbrev S1 : Shape := ⟨1, ![1]⟩
abbrev S12288x4096 : Shape := ⟨2, ![12288, 4096]⟩
abbrev S12288x512 : Shape := ⟨2, ![12288, 512]⟩
abbrev S12288x7168 : Shape := ⟨2, ![12288, 7168]⟩
abbrev S1024x4096 : Shape := ⟨2, ![1024, 4096]⟩
abbrev S1024x512 : Shape := ⟨2, ![1024, 512]⟩
abbrev S512x4096 : Shape := ⟨2, ![512, 4096]⟩
abbrev S512x512 : Shape := ⟨2, ![512, 512]⟩
abbrev S1024x8192 : Shape := ⟨2, ![1024, 8192]⟩
abbrev S512x8192 : Shape := ⟨2, ![512, 8192]⟩
abbrev S32x128 : Shape := ⟨2, ![32, 128]⟩
abbrev S8x128 : Shape := ⟨2, ![8, 128]⟩
abbrev S32x128x1 : Shape := ⟨3, ![32, 128, 1]⟩
abbrev S512x128 : Shape := ⟨2, ![512, 128]⟩
abbrev S128x128 : Shape := ⟨2, ![128, 128]⟩
abbrev S512x128x1 : Shape := ⟨3, ![512, 128, 1]⟩
abbrev S256x512 : Shape := ⟨2, ![256, 512]⟩

abbrev nBuf : Space → Nat
  | .hbm => 9
  | .vmem => 12
  | .smem => 2
  | _ => 0

abbrev bufTy : (tb : Table) → Fin (tcTables nBuf tb) → BufTy
  | .hbm, ⟨0, _⟩ => ⟨S6x2048x4096, .i8⟩
  | .hbm, ⟨1, _⟩ => ⟨S6x2048x512, .fp8e4m3⟩
  | .hbm, ⟨2, _⟩ => ⟨S8, .f32⟩
  | .hbm, ⟨3, _⟩ => ⟨S7168x4096, .i8⟩
  | .hbm, ⟨4, _⟩ => ⟨S7168x512, .fp8e4m3⟩
  | .hbm, ⟨5, _⟩ => ⟨S1, .f32⟩
  | .hbm, ⟨6, _⟩ => ⟨S12288x4096, .i8⟩
  | .hbm, ⟨7, _⟩ => ⟨S12288x512, .fp8e4m3⟩
  | .hbm, ⟨8, _⟩ => ⟨S12288x7168, .bf16⟩
  | .local _ .vmem, ⟨0, _⟩ => ⟨S1024x4096, .i8⟩
  | .local _ .vmem, ⟨1, _⟩ => ⟨S1024x4096, .i8⟩
  | .local _ .vmem, ⟨2, _⟩ => ⟨S1024x512, .fp8e4m3⟩
  | .local _ .vmem, ⟨3, _⟩ => ⟨S1024x512, .fp8e4m3⟩
  | .local _ .vmem, ⟨4, _⟩ => ⟨S512x4096, .i8⟩
  | .local _ .vmem, ⟨5, _⟩ => ⟨S512x4096, .i8⟩
  | .local _ .vmem, ⟨6, _⟩ => ⟨S512x512, .fp8e4m3⟩
  | .local _ .vmem, ⟨7, _⟩ => ⟨S512x512, .fp8e4m3⟩
  | .local _ .vmem, ⟨8, _⟩ => ⟨S1024x512, .bf16⟩
  | .local _ .vmem, ⟨9, _⟩ => ⟨S1024x512, .bf16⟩
  | .local _ .vmem, ⟨10, _⟩ => ⟨S1024x8192, .bf16⟩
  | .local _ .vmem, ⟨11, _⟩ => ⟨S512x8192, .bf16⟩
  | .local _ .smem, ⟨0, _⟩ => ⟨S8, .f32⟩
  | .local _ .smem, ⟨1, _⟩ => ⟨S1, .f32⟩
  | _, _ => ⟨S6x2048x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_754 : BitVec 32 := 0#32
  let c32_i32_755 : BitVec 32 := 32#32
  let v2242 : BitVec 32 := Scalar.addi c0_i32_754 c32_i32_755
  let c1_i32_756 : BitVec 32 := 1#32
  ⟨c0_i32_754, v2242, c1_i32_756⟩
def k0_mult1 (k0_t1 : Fin k0_t1_loop.trips) : BitVec 32 :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  v2245
def k0_off1 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2247 : Index := Scalar.indexCast v2246
  let c0_761 : Index := 0#32
  ![v2247.toNat, 0]
def k0_off2 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2250 : Index := Scalar.indexCast v2246
  let c0_762 : Index := 0#32
  ![v2250.toNat, 0]
def k0_off3 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2313 : Index := Scalar.indexCast v2246
  let c0_780 : Index := 0#32
  ![v2313.toNat, 0]
def k0_off4 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2317 : Index := Scalar.indexCast v2246
  let c4096_781 : Index := 4096#32
  ![v2317.toNat, 4096]
def k0_off5 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2321 : Index := Scalar.indexCast v2246
  let c128_782 : Index := 128#32
  ![v2321.toNat, 128]
def k0_off6 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2387 : Index := Scalar.indexCast v2246
  let c128_801 : Index := 128#32
  ![v2387.toNat, 128]
def k0_off7 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2391 : Index := Scalar.indexCast v2246
  let c4224_802 : Index := 4224#32
  ![v2391.toNat, 4224]
def k0_off8 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2395 : Index := Scalar.indexCast v2246
  let c256_803 : Index := 256#32
  ![v2395.toNat, 256]
def k0_off9 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2461 : Index := Scalar.indexCast v2246
  let c256_822 : Index := 256#32
  ![v2461.toNat, 256]
def k0_off10 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2465 : Index := Scalar.indexCast v2246
  let c4352_823 : Index := 4352#32
  ![v2465.toNat, 4352]
def k0_off11 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2469 : Index := Scalar.indexCast v2246
  let c384_824 : Index := 384#32
  ![v2469.toNat, 384]
def k0_off12 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2535 : Index := Scalar.indexCast v2246
  let c384_843 : Index := 384#32
  ![v2535.toNat, 384]
def k0_off13 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2539 : Index := Scalar.indexCast v2246
  let c4480_844 : Index := 4480#32
  ![v2539.toNat, 4480]
def k0_off14 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2543 : Index := Scalar.indexCast v2246
  let c512_845 : Index := 512#32
  ![v2543.toNat, 512]
def k0_off15 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2609 : Index := Scalar.indexCast v2246
  let c512_864 : Index := 512#32
  ![v2609.toNat, 512]
def k0_off16 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2613 : Index := Scalar.indexCast v2246
  let c4608_865 : Index := 4608#32
  ![v2613.toNat, 4608]
def k0_off17 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2617 : Index := Scalar.indexCast v2246
  let c640_866 : Index := 640#32
  ![v2617.toNat, 640]
def k0_off18 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2683 : Index := Scalar.indexCast v2246
  let c640_885 : Index := 640#32
  ![v2683.toNat, 640]
def k0_off19 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2687 : Index := Scalar.indexCast v2246
  let c4736_886 : Index := 4736#32
  ![v2687.toNat, 4736]
def k0_off20 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2691 : Index := Scalar.indexCast v2246
  let c768_887 : Index := 768#32
  ![v2691.toNat, 768]
def k0_off21 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2757 : Index := Scalar.indexCast v2246
  let c768_906 : Index := 768#32
  ![v2757.toNat, 768]
def k0_off22 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2761 : Index := Scalar.indexCast v2246
  let c4864_907 : Index := 4864#32
  ![v2761.toNat, 4864]
def k0_off23 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2765 : Index := Scalar.indexCast v2246
  let c896_908 : Index := 896#32
  ![v2765.toNat, 896]
def k0_off24 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2831 : Index := Scalar.indexCast v2246
  let c896_927 : Index := 896#32
  ![v2831.toNat, 896]
def k0_off25 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2835 : Index := Scalar.indexCast v2246
  let c4992_928 : Index := 4992#32
  ![v2835.toNat, 4992]
def k0_off26 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2839 : Index := Scalar.indexCast v2246
  let c1024_929 : Index := 1024#32
  ![v2839.toNat, 1024]
def k0_off27 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2842 : Index := Scalar.indexCast v2246
  let c128_930 : Index := 128#32
  ![v2842.toNat, 128]
def k0_off28 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2905 : Index := Scalar.indexCast v2246
  let c1024_948 : Index := 1024#32
  ![v2905.toNat, 1024]
def k0_off29 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2909 : Index := Scalar.indexCast v2246
  let c5120_949 : Index := 5120#32
  ![v2909.toNat, 5120]
def k0_off30 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2913 : Index := Scalar.indexCast v2246
  let c1152_950 : Index := 1152#32
  ![v2913.toNat, 1152]
def k0_off31 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2979 : Index := Scalar.indexCast v2246
  let c1152_969 : Index := 1152#32
  ![v2979.toNat, 1152]
def k0_off32 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2983 : Index := Scalar.indexCast v2246
  let c5248_970 : Index := 5248#32
  ![v2983.toNat, 5248]
def k0_off33 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v2987 : Index := Scalar.indexCast v2246
  let c1280_971 : Index := 1280#32
  ![v2987.toNat, 1280]
def k0_off34 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3053 : Index := Scalar.indexCast v2246
  let c1280_990 : Index := 1280#32
  ![v3053.toNat, 1280]
def k0_off35 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3057 : Index := Scalar.indexCast v2246
  let c5376_991 : Index := 5376#32
  ![v3057.toNat, 5376]
def k0_off36 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3061 : Index := Scalar.indexCast v2246
  let c1408_992 : Index := 1408#32
  ![v3061.toNat, 1408]
def k0_off37 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3127 : Index := Scalar.indexCast v2246
  let c1408_1011 : Index := 1408#32
  ![v3127.toNat, 1408]
def k0_off38 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3131 : Index := Scalar.indexCast v2246
  let c5504_1012 : Index := 5504#32
  ![v3131.toNat, 5504]
def k0_off39 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3135 : Index := Scalar.indexCast v2246
  let c1536_1013 : Index := 1536#32
  ![v3135.toNat, 1536]
def k0_off40 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3201 : Index := Scalar.indexCast v2246
  let c1536_1032 : Index := 1536#32
  ![v3201.toNat, 1536]
def k0_off41 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3205 : Index := Scalar.indexCast v2246
  let c5632_1033 : Index := 5632#32
  ![v3205.toNat, 5632]
def k0_off42 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3209 : Index := Scalar.indexCast v2246
  let c1664_1034 : Index := 1664#32
  ![v3209.toNat, 1664]
def k0_off43 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3275 : Index := Scalar.indexCast v2246
  let c1664_1053 : Index := 1664#32
  ![v3275.toNat, 1664]
def k0_off44 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3279 : Index := Scalar.indexCast v2246
  let c5760_1054 : Index := 5760#32
  ![v3279.toNat, 5760]
def k0_off45 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3283 : Index := Scalar.indexCast v2246
  let c1792_1055 : Index := 1792#32
  ![v3283.toNat, 1792]
def k0_off46 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3349 : Index := Scalar.indexCast v2246
  let c1792_1074 : Index := 1792#32
  ![v3349.toNat, 1792]
def k0_off47 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3353 : Index := Scalar.indexCast v2246
  let c5888_1075 : Index := 5888#32
  ![v3353.toNat, 5888]
def k0_off48 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3357 : Index := Scalar.indexCast v2246
  let c1920_1076 : Index := 1920#32
  ![v3357.toNat, 1920]
def k0_off49 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3423 : Index := Scalar.indexCast v2246
  let c1920_1095 : Index := 1920#32
  ![v3423.toNat, 1920]
def k0_off50 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3427 : Index := Scalar.indexCast v2246
  let c6016_1096 : Index := 6016#32
  ![v3427.toNat, 6016]
def k0_off51 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3431 : Index := Scalar.indexCast v2246
  let c2048_1097 : Index := 2048#32
  ![v3431.toNat, 2048]
def k0_off52 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3434 : Index := Scalar.indexCast v2246
  let c256_1098 : Index := 256#32
  ![v3434.toNat, 256]
def k0_off53 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3497 : Index := Scalar.indexCast v2246
  let c2048_1116 : Index := 2048#32
  ![v3497.toNat, 2048]
def k0_off54 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3501 : Index := Scalar.indexCast v2246
  let c6144_1117 : Index := 6144#32
  ![v3501.toNat, 6144]
def k0_off55 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3505 : Index := Scalar.indexCast v2246
  let c2176_1118 : Index := 2176#32
  ![v3505.toNat, 2176]
def k0_off56 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3571 : Index := Scalar.indexCast v2246
  let c2176_1137 : Index := 2176#32
  ![v3571.toNat, 2176]
def k0_off57 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3575 : Index := Scalar.indexCast v2246
  let c6272_1138 : Index := 6272#32
  ![v3575.toNat, 6272]
def k0_off58 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3579 : Index := Scalar.indexCast v2246
  let c2304_1139 : Index := 2304#32
  ![v3579.toNat, 2304]
def k0_off59 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3645 : Index := Scalar.indexCast v2246
  let c2304_1158 : Index := 2304#32
  ![v3645.toNat, 2304]
def k0_off60 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3649 : Index := Scalar.indexCast v2246
  let c6400_1159 : Index := 6400#32
  ![v3649.toNat, 6400]
def k0_off61 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3653 : Index := Scalar.indexCast v2246
  let c2432_1160 : Index := 2432#32
  ![v3653.toNat, 2432]
def k0_off62 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3719 : Index := Scalar.indexCast v2246
  let c2432_1179 : Index := 2432#32
  ![v3719.toNat, 2432]
def k0_off63 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3723 : Index := Scalar.indexCast v2246
  let c6528_1180 : Index := 6528#32
  ![v3723.toNat, 6528]
def k0_off64 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3727 : Index := Scalar.indexCast v2246
  let c2560_1181 : Index := 2560#32
  ![v3727.toNat, 2560]
def k0_off65 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3793 : Index := Scalar.indexCast v2246
  let c2560_1200 : Index := 2560#32
  ![v3793.toNat, 2560]
def k0_off66 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3797 : Index := Scalar.indexCast v2246
  let c6656_1201 : Index := 6656#32
  ![v3797.toNat, 6656]
def k0_off67 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3801 : Index := Scalar.indexCast v2246
  let c2688_1202 : Index := 2688#32
  ![v3801.toNat, 2688]
def k0_off68 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3867 : Index := Scalar.indexCast v2246
  let c2688_1221 : Index := 2688#32
  ![v3867.toNat, 2688]
def k0_off69 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3871 : Index := Scalar.indexCast v2246
  let c6784_1222 : Index := 6784#32
  ![v3871.toNat, 6784]
def k0_off70 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3875 : Index := Scalar.indexCast v2246
  let c2816_1223 : Index := 2816#32
  ![v3875.toNat, 2816]
def k0_off71 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3941 : Index := Scalar.indexCast v2246
  let c2816_1242 : Index := 2816#32
  ![v3941.toNat, 2816]
def k0_off72 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3945 : Index := Scalar.indexCast v2246
  let c6912_1243 : Index := 6912#32
  ![v3945.toNat, 6912]
def k0_off73 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v3949 : Index := Scalar.indexCast v2246
  let c2944_1244 : Index := 2944#32
  ![v3949.toNat, 2944]
def k0_off74 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4015 : Index := Scalar.indexCast v2246
  let c2944_1263 : Index := 2944#32
  ![v4015.toNat, 2944]
def k0_off75 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4019 : Index := Scalar.indexCast v2246
  let c7040_1264 : Index := 7040#32
  ![v4019.toNat, 7040]
def k0_off76 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4023 : Index := Scalar.indexCast v2246
  let c3072_1265 : Index := 3072#32
  ![v4023.toNat, 3072]
def k0_off77 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4026 : Index := Scalar.indexCast v2246
  let c384_1266 : Index := 384#32
  ![v4026.toNat, 384]
def k0_off78 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4089 : Index := Scalar.indexCast v2246
  let c3072_1284 : Index := 3072#32
  ![v4089.toNat, 3072]
def k0_off79 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4093 : Index := Scalar.indexCast v2246
  let c7168_1285 : Index := 7168#32
  ![v4093.toNat, 7168]
def k0_off80 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4097 : Index := Scalar.indexCast v2246
  let c3200_1286 : Index := 3200#32
  ![v4097.toNat, 3200]
def k0_off81 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4163 : Index := Scalar.indexCast v2246
  let c3200_1305 : Index := 3200#32
  ![v4163.toNat, 3200]
def k0_off82 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4167 : Index := Scalar.indexCast v2246
  let c7296_1306 : Index := 7296#32
  ![v4167.toNat, 7296]
def k0_off83 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4171 : Index := Scalar.indexCast v2246
  let c3328_1307 : Index := 3328#32
  ![v4171.toNat, 3328]
def k0_off84 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4237 : Index := Scalar.indexCast v2246
  let c3328_1326 : Index := 3328#32
  ![v4237.toNat, 3328]
def k0_off85 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4241 : Index := Scalar.indexCast v2246
  let c7424_1327 : Index := 7424#32
  ![v4241.toNat, 7424]
def k0_off86 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4245 : Index := Scalar.indexCast v2246
  let c3456_1328 : Index := 3456#32
  ![v4245.toNat, 3456]
def k0_off87 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4311 : Index := Scalar.indexCast v2246
  let c3456_1347 : Index := 3456#32
  ![v4311.toNat, 3456]
def k0_off88 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4315 : Index := Scalar.indexCast v2246
  let c7552_1348 : Index := 7552#32
  ![v4315.toNat, 7552]
def k0_off89 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4319 : Index := Scalar.indexCast v2246
  let c3584_1349 : Index := 3584#32
  ![v4319.toNat, 3584]
def k0_off90 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4385 : Index := Scalar.indexCast v2246
  let c3584_1368 : Index := 3584#32
  ![v4385.toNat, 3584]
def k0_off91 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4389 : Index := Scalar.indexCast v2246
  let c7680_1369 : Index := 7680#32
  ![v4389.toNat, 7680]
def k0_off92 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4393 : Index := Scalar.indexCast v2246
  let c3712_1370 : Index := 3712#32
  ![v4393.toNat, 3712]
def k0_off93 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4459 : Index := Scalar.indexCast v2246
  let c3712_1389 : Index := 3712#32
  ![v4459.toNat, 3712]
def k0_off94 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4463 : Index := Scalar.indexCast v2246
  let c7808_1390 : Index := 7808#32
  ![v4463.toNat, 7808]
def k0_off95 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4467 : Index := Scalar.indexCast v2246
  let c3840_1391 : Index := 3840#32
  ![v4467.toNat, 3840]
def k0_off96 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4533 : Index := Scalar.indexCast v2246
  let c3840_1410 : Index := 3840#32
  ![v4533.toNat, 3840]
def k0_off97 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4537 : Index := Scalar.indexCast v2246
  let c7936_1411 : Index := 7936#32
  ![v4537.toNat, 7936]
def k0_off98 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4541 : Index := Scalar.indexCast v2246
  let c3968_1412 : Index := 3968#32
  ![v4541.toNat, 3968]
def k0_off99 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4607 : Index := Scalar.indexCast v2246
  let c3968_1431 : Index := 3968#32
  ![v4607.toNat, 3968]
def k0_off100 (k0_t1 : Fin k0_t1_loop.trips) : Fin 2 → Nat :=
  let c0_i32_759 : BitVec 32 := 0#32
  let c0_i32_754 : BitVec 32 := 0#32
  let c1_i32_756 : BitVec 32 := 1#32
  let arg11 : BitVec 32 := Scf.iv c0_i32_754 c1_i32_756 k0_t1
  let c1_i32_758 : BitVec 32 := 1#32
  let v2243 : BitVec 32 := Scalar.muli arg11 c1_i32_758
  let v2244 : BitVec 32 := Scalar.addi c0_i32_759 v2243
  let c32_i32_760 : BitVec 32 := 32#32
  let v2245 : BitVec 32 := Scalar.muli v2244 c32_i32_760
  let v2246 : BitVec 32 := v2245
  let v4611 : Index := Scalar.indexCast v2246
  let c8064_1432 : Index := 8064#32
  ![v4611.toNat, 8064]
def k0_off101 (i : grid0.Coords) (c0_i32_728 : BitVec 32) : Fin 1 → Nat :=
  let arg0 : BitVec 32 := BitVec.ofNat 32 (i 0).val
  let c4_i32_727 : BitVec 32 := 4#32
  let v2182 : BitVec 32 := Scalar.muli arg0 c4_i32_727
  let v2183 : BitVec 32 := Scalar.addi v2182 c0_i32_728
  let c8_i32_729 : BitVec 32 := 8#32
  let v2184 : BitVec 32 := Scalar.remsi v2183 c8_i32_729
  let v2185 : Index := Scalar.indexCast v2184
  ![v2185.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S6x2048x4096 : Shape := ⟨3, ![6, 2048, 4096]⟩
abbrev S6x2048x512 : Shape := ⟨3, ![6, 2048, 512]⟩
abbrev S8 : Shape := ⟨1, ![8]⟩
abbrev S7168x4096 : Shape := ⟨2, ![7168, 4096]⟩
abbrev S7168x512 : Shape := ⟨2, ![7168, 512]⟩
abbrev S1 : Shape := ⟨1, ![1]⟩
abbrev S8x256 : Shape := ⟨2, ![8, 256]⟩
abbrev S2048 : Shape := ⟨1, ![2048]⟩
abbrev S1x2048x1 : Shape := ⟨3, ![1, 2048, 1]⟩
abbrev S6x2048x1 : Shape := ⟨3, ![6, 2048, 1]⟩
abbrev S12288x1 : Shape := ⟨2, ![12288, 1]⟩
abbrev S12288x4096 : Shape := ⟨2, ![12288, 4096]⟩
abbrev S12288x512 : Shape := ⟨2, ![12288, 512]⟩
abbrev S1x1 : Shape := ⟨2, ![1, 1]⟩
abbrev S12288x7168 : Shape := ⟨2, ![12288, 7168]⟩
abbrev S12288x512x1 : Shape := ⟨3, ![12288, 512, 1]⟩
abbrev S12288x512x8 : Shape := ⟨3, ![12288, 512, 8]⟩
abbrev S7168x512x1 : Shape := ⟨3, ![7168, 512, 1]⟩
abbrev S7168x512x8 : Shape := ⟨3, ![7168, 512, 8]⟩

abbrev nBuf : Space → Nat
  | .hbm => 15
  | .vmem => 7
  | .smem => 0
  | _ => 0

abbrev bufTy : (tb : Table) → Fin (tcTables nBuf tb) → BufTy
  | .hbm, ⟨0, _⟩ => ⟨S6x2048x4096, .i8⟩
  | .hbm, ⟨1, _⟩ => ⟨S6x2048x512, .fp8e4m3⟩
  | .hbm, ⟨2, _⟩ => ⟨S8, .f32⟩
  | .hbm, ⟨3, _⟩ => ⟨S7168x4096, .i8⟩
  | .hbm, ⟨4, _⟩ => ⟨S7168x512, .fp8e4m3⟩
  | .hbm, ⟨5, _⟩ => ⟨S1, .f32⟩
  | .hbm, ⟨6, _⟩ => ⟨S8x256, .f32⟩
  | .hbm, ⟨7, _⟩ => ⟨S2048, .f32⟩
  | .hbm, ⟨8, _⟩ => ⟨S1x2048x1, .f32⟩
  | .hbm, ⟨9, _⟩ => ⟨S6x2048x1, .f32⟩
  | .hbm, ⟨10, _⟩ => ⟨S12288x1, .f32⟩
  | .hbm, ⟨11, _⟩ => ⟨S12288x4096, .i8⟩
  | .hbm, ⟨12, _⟩ => ⟨S12288x512, .fp8e4m3⟩
  | .hbm, ⟨13, _⟩ => ⟨S1x1, .f32⟩
  | .hbm, ⟨14, _⟩ => ⟨S12288x7168, .bf16⟩
  | .local _ .vmem, ⟨0, _⟩ => ⟨S12288x4096, .i8⟩
  | .local _ .vmem, ⟨1, _⟩ => ⟨S12288x512, .fp8e4m3⟩
  | .local _ .vmem, ⟨2, _⟩ => ⟨S12288x1, .f32⟩
  | .local _ .vmem, ⟨3, _⟩ => ⟨S7168x4096, .i8⟩
  | .local _ .vmem, ⟨4, _⟩ => ⟨S7168x512, .fp8e4m3⟩
  | .local _ .vmem, ⟨5, _⟩ => ⟨S1x1, .f32⟩
  | .local _ .vmem, ⟨6, _⟩ => ⟨S12288x7168, .bf16⟩
  | _, _ => ⟨S6x2048x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Decode.lean ====
module

public import Idealize.ShloMosaic.Lib.BitcastFour
public import Idealize.ShloMosaic.Lib.Pipeline.ValueKit

/-
  The four-bit codes as extended reals: the value of a code, the 8-bit float pattern the kernel places a code in, and
  the nested selection over the code's bits by which the reference decodes it.
-/

@[expose] public section

set_option maxRecDepth 16384

noncomputable section

namespace Cert.Decode

open Idealize.ShloMosaic

/-- The value of a four-bit code with sign bit `s`, exponent bits `e1 e0` and mantissa bit `m`. -/
def e2m1 (s e1 e0 m : Bool) : ℝ :=
  let mag : ℝ :=
    if e1 then (if e0 then (if m then 6 else 4) else (if m then 3 else 2))
    else (if e0 then (if m then 3 / 2 else 1) else (if m then 1 / 2 else 0))
  if s then -mag else mag

/-- The value of the code a byte holds at bit `o` (`0` its low half, `4` its high half). -/
def nib (x : BitVec 8) (o : ℕ) : ℝ :=
  e2m1 (x.getLsbD (o + 3)) (x.getLsbD (o + 2)) (x.getLsbD (o + 1)) (x.getLsbD o)

/-- The byte that holds a code's sign at bit 7, its exponent at bits 4 and 3 and its mantissa at bit 2. -/
def place (s e1 e0 m : Bool) : BitVec 8 :=
  BitVec.ofBool s ++ 0#2 ++ BitVec.ofBool e1 ++ BitVec.ofBool e0 ++ BitVec.ofBool m ++ 0#2

/-- Read as an 8-bit float, the placed code is the code's value over 64. -/
theorem ofBits_place (s e1 e0 m : Bool) :
    Ideal.ofBits .fp8e4m3 (place s e1 e0 m) = ((e2m1 s e1 e0 m / 64 : ℝ) : EReal) := by
  have ev : ∀ s e1 e0 m : Bool,
      ((place s e1 e0 m).extractLsb' 7 1 == 1#1) = s
      ∧ ((place s e1 e0 m).extractLsb' 3 4).toNat = 2 * e1.toNat + e0.toNat
      ∧ ((place s e1 e0 m).extractLsb' 0 3).toNat = 4 * m.toNat := by decide
  obtain ⟨h1, h2, h3⟩ := ev s e1 e0 m
  simp only [Ideal.ofBits, Ideal.e4m3fn, h1, h2, h3]
  cases s <;> cases e1 <;> cases e0 <;> cases m <;> norm_num [e2m1]

/-- A byte whose bits are those of a placed code is that placed code. -/
theorem eq_place {p : BitVec 8} {s e1 e0 m : Bool} (h0 : p.getLsbD 0 = false) (h1 : p.getLsbD 1 = false)
    (h2 : p.getLsbD 2 = m) (h3 : p.getLsbD 3 = e0) (h4 : p.getLsbD 4 = e1) (h5 : p.getLsbD 5 = false)
    (h6 : p.getLsbD 6 = false) (h7 : p.getLsbD 7 = s) : p = place s e1 e0 m := by
  apply BitVec.eq_of_getLsbD_eq
  intro i hi
  have ev : ∀ s e1 e0 m : Bool, (place s e1 e0 m).getLsbD 0 = false ∧ (place s e1 e0 m).getLsbD 1 = false
      ∧ (place s e1 e0 m).getLsbD 2 = m ∧ (place s e1 e0 m).getLsbD 3 = e0 ∧ (place s e1 e0 m).getLsbD 4 = e1
      ∧ (place s e1 e0 m).getLsbD 5 = false ∧ (place s e1 e0 m).getLsbD 6 = false
      ∧ (place s e1 e0 m).getLsbD 7 = s := by decide
  obtain ⟨g0, g1, g2, g3, g4, g5, g6, g7⟩ := ev s e1 e0 m
  interval_cases i
  · rw [h0, g0]
  · rw [h1, g1]
  · rw [h2, g2]
  · rw [h3, g3]
  · rw [h4, g4]
  · rw [h5, g5]
  · rw [h6, g6]
  · rw [h7, g7]

/-! ## Four codes at once, in a 32-bit word -/

/-- The low codes of a word's four bytes, each placed in its own byte. -/
def wordLo (w : BitVec 32) : BitVec 32 := ((w <<< 2) &&& 471604252#32) ||| ((w <<< 4) &&& 2155905152#32)

/-- The high codes of a word's four bytes, each placed in its own byte. -/
def wordHi (w : BitVec 32) : BitVec 32 := ((w >>> 2) &&& 471604252#32) ||| (w &&& 2155905152#32)

/-- A byte that reads byte `k` of `wordLo w` is the placed low code of the byte that `w` holds there. -/
theorem byte_wordLo (w : BitVec 32) (x p : BitVec 8) (k : ℕ) (hk : k < 4)
    (hx : ∀ q, q < 8 → w.getLsbD (8 * k + q) = x.getLsbD q)
    (hp : ∀ q, q < 8 → p.getLsbD q = (wordLo w).getLsbD (8 * k + q)) :
    Ideal.ofBits .fp8e4m3 p = ((nib x 0 / 64 : ℝ) : EReal) := by
  have e : p = place (x.getLsbD 3) (x.getLsbD 2) (x.getLsbD 1) (x.getLsbD 0) := by
    have x0 := hx 0 (by omega); have x1 := hx 1 (by omega); have x2 := hx 2 (by omega); have x3 := hx 3 (by omega)
    interval_cases k <;>
      exact eq_place (by rw [hp _ (by omega)]; simp [wordLo]) (by rw [hp _ (by omega)]; simp [wordLo])
        (by rw [hp _ (by omega), ← x0]; simp [wordLo]) (by rw [hp _ (by omega), ← x1]; simp [wordLo])
        (by rw [hp _ (by omega), ← x2]; simp [wordLo]) (by rw [hp _ (by omega)]; simp [wordLo])
        (by rw [hp _ (by omega)]; simp [wordLo]) (by rw [hp _ (by omega), ← x3]; simp [wordLo])
  rw [e, ofBits_place]; rfl

/-- A byte that reads byte `k` of `wordHi w` is the placed high code of the byte that `w` holds there. -/
theorem byte_wordHi (w : BitVec 32) (x p : BitVec 8) (k : ℕ) (hk : k < 4)
    (hx : ∀ q, q < 8 → w.getLsbD (8 * k + q) = x.getLsbD q)
    (hp : ∀ q, q < 8 → p.getLsbD q = (wordHi w).getLsbD (8 * k + q)) :
    Ideal.ofBits .fp8e4m3 p = ((nib x 4 / 64 : ℝ) : EReal) := by
  have e : p = place (x.getLsbD 7) (x.getLsbD 6) (x.getLsbD 5) (x.getLsbD 4) := by
    have x0 := hx 4 (by omega); have x1 := hx 5 (by omega); have x2 := hx 6 (by omega); have x3 := hx 7 (by omega)
    interval_cases k <;>
      exact eq_place (by rw [hp _ (by omega)]; simp [wordHi]) (by rw [hp _ (by omega)]; simp [wordHi])
        (by rw [hp _ (by omega), ← x0]; simp [wordHi]) (by rw [hp _ (by omega), ← x1]; simp [wordHi])
        (by rw [hp _ (by omega), ← x2]; simp [wordHi]) (by rw [hp _ (by omega)]; simp [wordHi])
        (by rw [hp _ (by omega)]; simp [wordHi]) (by rw [hp _ (by omega), ← x3]; simp [wordHi])
  rw [e, ofBits_place]; rfl

/-! ## The reference's decoding -/

/-- The reference's nested selection over the bits of a code's word, in its order. -/
def decode (n : BitVec 32) : EReal :=
  let c (k : BitVec 16) : EReal := Ideal.ofBits .bf16 k
  let b (k : BitVec 32) : BitVec 1 := Scalar.cmpi .ne (n &&& k) 0#32
  let mag : EReal :=
    Scalar.select (b 4#32)
      (Scalar.select (b 2#32) (Scalar.select (b 1#32) (c 0x40C0#16) (c 0x4080#16)) (Scalar.select (b 1#32) (c 0x4040#16) (c 0x4000#16)))
      (Scalar.select (b 2#32) (Scalar.select (b 1#32) (c 0x3FC0#16) (c 0x3F80#16)) (Scalar.select (b 1#32) (c 0x3F00#16) (c 0x0000#16)))
  Scalar.select (b 8#32) (c 0x0000#16 - mag) mag

/-- The decoding of a word whose low four bits are those of a code is the code's value. -/
theorem decode_eq {n : BitVec 32} {s e1 e0 m : Bool} (h0 : Scalar.cmpi .ne (n &&& 1#32) 0#32 = BitVec.ofBool m)
    (h1 : Scalar.cmpi .ne (n &&& 2#32) 0#32 = BitVec.ofBool e0) (h2 : Scalar.cmpi .ne (n &&& 4#32) 0#32 = BitVec.ofBool e1)
    (h3 : Scalar.cmpi .ne (n &&& 8#32) 0#32 = BitVec.ofBool s) : decode n = ((e2m1 s e1 e0 m : ℝ) : EReal) := by
  unfold decode
  simp only [h0, h1, h2, h3]
  have c0 : Ideal.ofBits .bf16 0x0000#16 = ((0 : ℝ) : EReal) := by simp [Ideal.ofBits_zero_bf16]
  have c1 : Ideal.ofBits .bf16 0x3F00#16 = ((1 / 2 : ℝ) : EReal) := by simp [Ideal.ofBits, Ideal.ieee, -EReal.coe_mul]; norm_num
  have c2 : Ideal.ofBits .bf16 0x3F80#16 = ((1 : ℝ) : EReal) := by simp [Ideal.ofBits, Ideal.ieee, -EReal.coe_mul]; norm_num
  have c3 : Ideal.ofBits .bf16 0x3FC0#16 = ((3 / 2 : ℝ) : EReal) := by simp [Ideal.ofBits, Ideal.ieee, -EReal.coe_mul]; norm_num
  have c4 : Ideal.ofBits .bf16 0x4000#16 = ((2 : ℝ) : EReal) := by simp [Ideal.ofBits, Ideal.ieee, -EReal.coe_mul]; norm_num
  have c5 : Ideal.ofBits .bf16 0x4040#16 = ((3 : ℝ) : EReal) := by simp [Ideal.ofBits, Ideal.ieee, -EReal.coe_mul]; norm_num
  have c6 : Ideal.ofBits .bf16 0x4080#16 = ((4 : ℝ) : EReal) := by simp [Ideal.ofBits, Ideal.ieee, -EReal.coe_mul]; norm_num
  have c7 : Ideal.ofBits .bf16 0x40C0#16 = ((6 : ℝ) : EReal) := by simp [Ideal.ofBits, Ideal.ieee, -EReal.coe_mul]; norm_num
  simp only [c0, c1, c2, c3, c4, c5, c6, c7]
  cases s <;> cases e1 <;> cases e0 <;> cases m <;>
    simp [Scalar.select, e2m1, ← EReal.coe_sub, -EReal.coe_zero] <;> simp

/-- The reference decodes the low code of a byte to the code's value. -/
theorem decode_lo (x : BitVec 8) : decode (x.setWidth 32 &&& 15#32) = ((nib x 0 : ℝ) : EReal) := by
  have h : ∀ x : BitVec 8, Scalar.cmpi .ne ((x.setWidth 32 &&& 15#32) &&& 1#32) 0#32 = BitVec.ofBool (x.getLsbD 0)
      ∧ Scalar.cmpi .ne ((x.setWidth 32 &&& 15#32) &&& 2#32) 0#32 = BitVec.ofBool (x.getLsbD 1)
      ∧ Scalar.cmpi .ne ((x.setWidth 32 &&& 15#32) &&& 4#32) 0#32 = BitVec.ofBool (x.getLsbD 2)
      ∧ Scalar.cmpi .ne ((x.setWidth 32 &&& 15#32) &&& 8#32) 0#32 = BitVec.ofBool (x.getLsbD 3) := by decide +kernel
  obtain ⟨h0, h1, h2, h3⟩ := h x
  exact decode_eq h0 h1 h2 h3

/-- The reference decodes the high code of a byte to the code's value. -/
theorem decode_hi (x : BitVec 8) : decode (IntOp.shrsi .vector (x.setWidth 32) 4#32) = ((nib x 4 : ℝ) : EReal) := by
  have h : ∀ x : BitVec 8, Scalar.cmpi .ne (IntOp.shrsi .vector (x.setWidth 32) 4#32 &&& 1#32) 0#32 = BitVec.ofBool (x.getLsbD 4)
      ∧ Scalar.cmpi .ne (IntOp.shrsi .vector (x.setWidth 32) 4#32 &&& 2#32) 0#32 = BitVec.ofBool (x.getLsbD 5)
      ∧ Scalar.cmpi .ne (IntOp.shrsi .vector (x.setWidth 32) 4#32 &&& 4#32) 0#32 = BitVec.ofBool (x.getLsbD 6)
      ∧ Scalar.cmpi .ne (IntOp.shrsi .vector (x.setWidth 32) 4#32 &&& 8#32) 0#32 = BitVec.ofBool (x.getLsbD 7) := by decide +kernel
  obtain ⟨h0, h1, h2, h3⟩ := h x
  exact decode_eq h0 h1 h2 h3
end Cert.Decode
-- ==== Proof.Chunk.lean ====
module

public import proofs.«01_k».proof.Proof.Decode

/-
  One chunk of the kernel's dequantization: 128 lanes of codes and one 128-lane tile of block scales, at any number of
  rows. `chunkLo` and `chunkHi` are the kernel's operations in its order; the theorems read them at an index.
-/

@[expose] public section

set_option maxRecDepth 16384

noncomputable section

namespace Cert.Chunk

open Idealize.ShloMosaic hiding ix2 ix3
open Idealize.ShloMosaic.ValueIdx
open Cert.Decode

/-- Rows by columns. -/
abbrev Sh (R C : ℕ) : Shape := ⟨2, ![R, C]⟩

variable {R r : ℕ}

/-- The words of the low codes: the codes' bytes as words, shifted and masked. -/
def loWords (codes : IVec (Sh R 128) 8) (hc : (Sh R 128).Bitcasts 8 (Sh r 128) 32) : IVec (Sh r 128) 32 :=
  ori (andi (shli (bitcast (Sh r 128) 32 codes hc) (broadcast (Sh r 128) 2#32)) (broadcast (Sh r 128) 471604252#32))
    (andi (shli (bitcast (Sh r 128) 32 codes hc) (broadcast (Sh r 128) 4#32)) (broadcast (Sh r 128) 2155905152#32))

/-- The words of the high codes. -/
def hiWords (codes : IVec (Sh R 128) 8) (hc : (Sh R 128).Bitcasts 8 (Sh r 128) 32) : IVec (Sh r 128) 32 :=
  ori (andi (shrui (bitcast (Sh r 128) 32 codes hc) (broadcast (Sh r 128) 2#32)) (broadcast (Sh r 128) 471604252#32))
    (andi (bitcast (Sh r 128) 32 codes hc) (broadcast (Sh r 128) 2155905152#32))

/-- The scale tile's column of each lane: the lane over eight, rounded down, plus the chunk's first column `c`. -/
def cols (R : ℕ) (c : BitVec 32) (hi : (Sh R 128).Iotas .tc 32 [1]) : IVec (Sh R 128) 32 :=
  let lane : IVec (Sh R 128) 32 := iota .tc (Sh R 128) 32 [1] hi
  let q := divsi lane (broadcast (Sh R 128) 8#32)
  let sgn : IVec (Sh R 128) 32 := subi (extui 32 (cmpi .sgt lane (broadcast (Sh R 128) 0#32)) (by decide))
    (extui 32 (cmpi .slt lane (broadcast (Sh R 128) 0#32)) (by decide))
  let s8 : BitVec 32 := Scalar.subi (Scalar.extui (Scalar.cmpi .sgt 8#32 0#32)) (Scalar.extui (Scalar.cmpi .slt 8#32 0#32))
  addi (select (andi (cmpi .ne sgn (broadcast (Sh R 128) s8))
      (cmpi .ne (remsi lane (broadcast (Sh R 128) 8#32)) (broadcast (Sh R 128) 0#32)))
    (subi q (broadcast (Sh R 128) 1#32)) q) (broadcast (Sh R 128) c)

/-- The scales of a chunk's lanes, gathered from the scale tile. -/
def scl (scales : FVec Ideal (Sh R 128) .fp8e4m3) (c : BitVec 32) (hi : (Sh R 128).Iotas .tc 32 [1])
    (h1 : (Sh R 128).ShapeCasts ⟨3, ![R, 128, 1]⟩) (h2 : (⟨3, ![R, 128, 1]⟩ : Shape).ShapeCasts (Sh R 128)) :
    FVec Ideal (Sh R 128) .bf16 :=
  let w := cols R c hi
  truncf .bf16 (dynamicGather 1 (extf .f32 scales (by decide))
    (shapeCast (Sh R 128) (shapeCast ⟨3, ![R, 128, 1]⟩
      (select (cmpi .slt w (broadcast (Sh R 128) 0#32)) (addi w (broadcast (Sh R 128) 128#32)) w) h1) h2)) (by decide)

/-- A chunk: words of placed codes read as 8-bit floats, times the gathered scales. -/
def scaled (words : IVec (Sh r 128) 32) (s : FVec Ideal (Sh R 128) .bf16) (hb : (Sh r 128).Bitcasts 32 (Sh R 128) 8) :
    FVec Ideal (Sh R 128) .bf16 :=
  mulf (extf .bf16 (bitcastToFloat .fp8e4m3 (bitcast (Sh R 128) 8 words hb)) (by decide)) s

/-! ## Read at an index -/

/-- Eight divides the lanes as the kernel's words compute it, at every lane and chunk. -/
theorem col_word : ∀ (l : Fin 128) (c : Fin 8),
    let lane := BitVec.ofNat 32 (0 * 128 + l.val)
    let q := IntOp.divsi .vector lane 8#32
    let w := IntOp.addi (Scalar.select (IntOp.andi (IntOp.cmpi .ne (IntOp.subi ((IntOp.cmpi .sgt lane 0#32).setWidth 32) ((IntOp.cmpi .slt lane 0#32).setWidth 32))
        (Scalar.subi (Scalar.extui (Scalar.cmpi .sgt 8#32 0#32)) (Scalar.extui (Scalar.cmpi .slt 8#32 0#32)) : BitVec 32))
      (IntOp.cmpi .ne (IntOp.remsi .vector lane 8#32) 0#32)) (IntOp.subi q 1#32) q) (BitVec.ofNat 32 (16 * c.val))
    (Scalar.select (IntOp.cmpi .slt w 0#32) (IntOp.addi w 128#32) w).toNat % 128 = l.val / 8 + 16 * c.val := by
  decide +kernel

/-- The gathered scale of lane `l` of chunk `c` is the tile's at column `l / 8 + 16 c`. -/
theorem scl_apply (scales : FVec Ideal (Sh R 128) .fp8e4m3) (c : Fin 8) (hi h1 h2) (i : Fin R) (l : Fin 128) :
    scl scales (BitVec.ofNat 32 (16 * c.val)) hi h1 h2 (ix2 i l)
      = scales (ix2 i ⟨l.val / 8 + 16 * c.val, by omega⟩) := by
  unfold scl
  rw [shapeCast_shapeCast]
  show scales _ = _
  congr 1
  funext b
  match b with
  | ⟨0, _⟩ => rfl
  | ⟨1, _⟩ =>
    apply Fin.ext
    show (Scalar.select _ _ _ : BitVec 32).toNat % 128 = _
    exact col_word l c

/-- Bit `q` of byte `i` of the words' bytes is bit `8 (i mod 4) + q` of word `i / 4`. -/
theorem byte_bits {hb : (Sh r 128).Bitcasts 32 (Sh R 128) 8} (words : IVec (Sh r 128) 32) (i : Fin R) (a : Fin r) (l : Fin 128)
    (ha : a.val = i.val / 4) (q : ℕ) (hq : q < 8) :
    (bitcast (Sh R 128) 8 words hb (ix2 i l)).getLsbD q = (words (ix2 a l)).getLsbD (8 * (i.val % 4) + q) := by
  rw [bitcast_getLsbD words hb _ q hq (by decide)]
  have hrow : (Sh R 128).row (ix2 i l) = i.val := rfl
  congr 1
  · congr 1
    funext c
    match c with
    | ⟨0, _⟩ =>
      refine Fin.ext ((hb.srcIdx_row _ _ _ ⟨0, Nat.zero_lt_two⟩ rfl).trans ?_)
      show ((Sh R 128).row (ix2 i l) * 8 + q) / 32 = a.val
      rw [hrow]; omega
    | ⟨1, _⟩ => exact Fin.ext (hb.srcIdx_other _ _ _ ⟨1, Nat.one_lt_two⟩ (by show ¬ 1 + 2 = 2; omega))
  · rw [hrow]; omega

/-- Bit `8 (i mod 4) + q` of word `i / 4` of the codes is bit `q` of code byte `i`. -/
theorem word_bits {hc : (Sh R 128).Bitcasts 8 (Sh r 128) 32} (codes : IVec (Sh R 128) 8) (i : Fin R) (a : Fin r) (l : Fin 128)
    (ha : a.val = i.val / 4) (q : ℕ) (hq : q < 8) :
    (bitcast (Sh r 128) 32 codes hc (ix2 a l)).getLsbD (8 * (i.val % 4) + q) = (codes (ix2 i l)).getLsbD q := by
  rw [bitcast_8_32_getLsbD_ix2 codes hc a l (8 * (i.val % 4) + q) (by omega) i (by omega)]
  congr 1; omega

/-- A chunk of low codes at row `i`, lane `l`: the low code's value over 64, times its block's scale. -/
theorem scaled_lo_apply (codes : IVec (Sh R 128) 8) (scales : FVec Ideal (Sh R 128) .fp8e4m3) (c : Fin 8) (hc hb hi h1 h2)
    (hr : R = 4 * r) (i : Fin R) (l : Fin 128) :
    scaled (loWords (r := r) codes hc) (scl scales (BitVec.ofNat 32 (16 * c.val)) hi h1 h2) hb (ix2 i l)
      = ((nib (codes (ix2 i l)) 0 / 64 : ℝ) : EReal) * scales (ix2 i ⟨l.val / 8 + 16 * c.val, by omega⟩) := by
  have ha : i.val / 4 < r := by omega
  rw [← scl_apply scales c hi h1 h2 i l]
  refine congrArg (· * _) ?_
  exact byte_wordLo (bitcast (Sh r 128) 32 codes hc (ix2 ⟨i.val / 4, ha⟩ l)) (codes (ix2 i l)) _ (i.val % 4) (by omega)
    (fun q hq => word_bits codes i ⟨i.val / 4, ha⟩ l rfl q hq)
    (fun q hq => byte_bits _ i ⟨i.val / 4, ha⟩ l rfl q hq)

/-- A chunk of high codes at row `i`, lane `l`: the high code's value over 64, times its block's scale. -/
theorem scaled_hi_apply (codes : IVec (Sh R 128) 8) (scales : FVec Ideal (Sh R 128) .fp8e4m3) (c : Fin 8) (hc hb hi h1 h2)
    (hr : R = 4 * r) (i : Fin R) (l : Fin 128) :
    scaled (hiWords (r := r) codes hc) (scl scales (BitVec.ofNat 32 (16 * c.val)) hi h1 h2) hb (ix2 i l)
      = ((nib (codes (ix2 i l)) 4 / 64 : ℝ) : EReal) * scales (ix2 i ⟨l.val / 8 + 16 * c.val, by omega⟩) := by
  have ha : i.val / 4 < r := by omega
  rw [← scl_apply scales c hi h1 h2 i l]
  refine congrArg (· * _) ?_
  exact byte_wordHi (bitcast (Sh r 128) 32 codes hc (ix2 ⟨i.val / 4, ha⟩ l)) (codes (ix2 i l)) _ (i.val % 4) (by omega)
    (fun q hq => word_bits codes i ⟨i.val / 4, ha⟩ l rfl q hq)
    (fun q hq => byte_bits _ i ⟨i.val / 4, ha⟩ l rfl q hq)

/-! ## A chunk as a piece of the dequantized rows -/

/-- The dequantized rows: column `j` below 4096 is the low code of byte `j`, column `4096 + j` its high code, each over
    64 and times the scale of its block of eight bytes. -/
def deq {M : ℕ} (X : IVec (Sh M 4096) 8) (S : FVec Ideal (Sh M 512) .fp8e4m3) : FVec Ideal (Sh M 8192) .bf16 := fun y =>
  ((nib (X (ix2 (y 0) ⟨(y 1).val % 4096, by omega⟩)) (if (y 1).val < 4096 then 0 else 4) / 64 : ℝ) : EReal)
    * S (ix2 (y 0) ⟨(y 1).val % 4096 / 8, by omega⟩)

variable {M : ℕ}

/-- The chunk of low codes of lanes `128 J …`, loaded from rows `r0 …` of the codes and scales, is `deq`'s piece there. -/
theorem lo_piece (X : IVec (Sh M 4096) 8) (S : FVec Ideal (Sh M 512) .fp8e4m3) (r0 : ℕ) (J : Fin 32)
    (oc os od : Fin 2 → ℕ) (hoc : oc = ![r0, 128 * J.val]) (hos : os = ![r0, 128 * (J.val / 8)]) (hod : od = ![r0, 128 * J.val])
    (ic is id' hc hb hi h1 h2) (hr : R = 4 * r) (x : (Sh R 128).Idx) :
    scaled (loWords (r := r) (View.ld (Val := Elt Ideal) (S := Sh M 4096) (e' := .i8) X (Rect.unit oc (Sh R 128).size ic)) hc)
        (scl (View.ld (Val := Elt Ideal) (S := Sh M 512) (e' := .fp8e4m3) S (Rect.unit os (Sh R 128).size is)) (BitVec.ofNat 32 (16 * (J.val % 8))) hi h1 h2) hb x
      = deq X S ((Rect.unit (s := Sh M 8192) od (Sh R 128).size id').emb x) := by
  subst hoc hos hod
  obtain ⟨i, l, rfl⟩ : ∃ i l, x = ix2 i l := ⟨x 0, x 1, by funext a; match a with | ⟨0, _⟩ => rfl | ⟨1, _⟩ => rfl⟩
  have := scaled_lo_apply (View.ld (Val := Elt Ideal) (S := Sh M 4096) (e' := .i8) X (Rect.unit _ (Sh R 128).size ic))
    (View.ld (Val := Elt Ideal) (S := Sh M 512) (e' := .fp8e4m3) S (Rect.unit _ (Sh R 128).size is)) ⟨J.val % 8, by omega⟩ hc hb hi h1 h2 hr i l
  refine this.trans ?_
  have e1 : (((Rect.unit (s := Sh M 8192) ![r0, 128 * J.val] (Sh R 128).size id').emb (ix2 i l)) 1).val = 128 * J.val + l.val := by
    show 128 * J.val + 1 * l.val = _; omega
  unfold deq
  rw [if_pos (by rw [e1]; omega)]
  congr 1
  · refine congrArg (fun v => ((nib v _ / 64 : ℝ) : EReal)) (congrArg X ?_)
    funext a
    match a with
    | ⟨0, _⟩ => rfl
    | ⟨1, _⟩ => apply Fin.ext; show 128 * J.val + 1 * l.val = _ % 4096; rw [e1]; omega
  · refine congrArg S ?_
    funext a
    match a with
    | ⟨0, _⟩ => rfl
    | ⟨1, _⟩ => apply Fin.ext; show 128 * (J.val / 8) + 1 * (l.val / 8 + 16 * (J.val % 8)) = _ % 4096 / 8; rw [e1]; omega

/-- The same of the high codes, 4096 columns further. -/
theorem hi_piece (X : IVec (Sh M 4096) 8) (S : FVec Ideal (Sh M 512) .fp8e4m3) (r0 : ℕ) (J : Fin 32)
    (oc os od : Fin 2 → ℕ) (hoc : oc = ![r0, 128 * J.val]) (hos : os = ![r0, 128 * (J.val / 8)]) (hod : od = ![r0, 4096 + 128 * J.val])
    (ic is id' hc hb hi h1 h2) (hr : R = 4 * r) (x : (Sh R 128).Idx) :
    scaled (hiWords (r := r) (View.ld (Val := Elt Ideal) (S := Sh M 4096) (e' := .i8) X (Rect.unit oc (Sh R 128).size ic)) hc)
        (scl (View.ld (Val := Elt Ideal) (S := Sh M 512) (e' := .fp8e4m3) S (Rect.unit os (Sh R 128).size is)) (BitVec.ofNat 32 (16 * (J.val % 8))) hi h1 h2) hb x
      = deq X S ((Rect.unit (s := Sh M 8192) od (Sh R 128).size id').emb x) := by
  subst hoc hos hod
  obtain ⟨i, l, rfl⟩ : ∃ i l, x = ix2 i l := ⟨x 0, x 1, by funext a; match a with | ⟨0, _⟩ => rfl | ⟨1, _⟩ => rfl⟩
  have := scaled_hi_apply (View.ld (Val := Elt Ideal) (S := Sh M 4096) (e' := .i8) X (Rect.unit _ (Sh R 128).size ic))
    (View.ld (Val := Elt Ideal) (S := Sh M 512) (e' := .fp8e4m3) S (Rect.unit _ (Sh R 128).size is)) ⟨J.val % 8, by omega⟩ hc hb hi h1 h2 hr i l
  refine this.trans ?_
  have e1 : (((Rect.unit (s := Sh M 8192) ![r0, 4096 + 128 * J.val] (Sh R 128).size id').emb (ix2 i l)) 1).val
      = 4096 + 128 * J.val + l.val := by
    show 4096 + 128 * J.val + 1 * l.val = _; omega
  unfold deq
  rw [if_neg (by rw [e1]; omega)]
  congr 1
  · refine congrArg (fun v => ((nib v _ / 64 : ℝ) : EReal)) (congrArg X ?_)
    funext a
    match a with
    | ⟨0, _⟩ => rfl
    | ⟨1, _⟩ => apply Fin.ext; show 128 * J.val + 1 * l.val = _ % 4096; rw [e1]; omega
  · refine congrArg S ?_
    funext a
    match a with
    | ⟨0, _⟩ => rfl
    | ⟨1, _⟩ => apply Fin.ext; show 128 * (J.val / 8) + 1 * (l.val / 8 + 16 * (J.val % 8)) = _ % 4096 / 8; rw [e1]; omega

/-- The two pieces of one chunk, in front of pieces that agree with `deq`. -/
theorem pair_agree (X : IVec (Sh M 4096) 8) (S : FVec Ideal (Sh M 512) .fp8e4m3) (r0 : ℕ) (J : Fin 32) {oc os odl odh : Fin 2 → ℕ}
    (hoc : oc = ![r0, 128 * J.val]) (hos : os = ![r0, 128 * (J.val / 8)])
    (hodl : odl = ![r0, 128 * J.val]) (hodh : odh = ![r0, 4096 + 128 * J.val])
    {ic is idl idh} {hc : (Sh R 128).Bitcasts 8 (Sh r 128) 32} {hb : (Sh r 128).Bitcasts 32 (Sh R 128) 8} {hi h1 h2}
    {hv : (Sh R 128).ShapeCasts (Sh R 128)} (hr : R = 4 * r) {T : List (View.Piece (Elt Ideal) (Sh M 8192) .bf16)}
    (hT : ∀ p ∈ T, ∀ x, p.2 x = deq X S (p.1.emb x)) :
    ∀ p ∈ (⟨Rect.unit (s := Sh M 8192) odh (Sh R 128).size idh,
              shapeCast (Sh R 128) (scaled (hiWords (r := r) (View.ld (Val := Elt Ideal) (S := Sh M 4096) (e' := .i8) X (Rect.unit oc (Sh R 128).size ic)) hc)
                (scl (View.ld (Val := Elt Ideal) (S := Sh M 512) (e' := .fp8e4m3) S (Rect.unit os (Sh R 128).size is)) (BitVec.ofNat 32 (16 * (J.val % 8))) hi h1 h2) hb) hv⟩
          :: ⟨Rect.unit (s := Sh M 8192) odl (Sh R 128).size idl,
              shapeCast (Sh R 128) (scaled (loWords (r := r) (View.ld (Val := Elt Ideal) (S := Sh M 4096) (e' := .i8) X (Rect.unit oc (Sh R 128).size ic)) hc)
                (scl (View.ld (Val := Elt Ideal) (S := Sh M 512) (e' := .fp8e4m3) S (Rect.unit os (Sh R 128).size is)) (BitVec.ofNat 32 (16 * (J.val % 8))) hi h1 h2) hb) hv⟩
          :: T : List (View.Piece (Elt Ideal) (Sh M 8192) .bf16)), ∀ x, p.2 x = deq X S (p.1.emb x) := by
  refine List.forall_mem_cons.2 ⟨fun x => ?_, List.forall_mem_cons.2 ⟨fun x => ?_, hT⟩⟩
  · exact (congrFun (shapeCast_self _ hv) x).trans (hi_piece X S r0 J oc os odh hoc hos hodh ic is idh hc hb hi h1 h2 hr x)
  · exact (congrFun (shapeCast_self _ hv) x).trans (lo_piece X S r0 J oc os odl hoc hos hodl ic is idl hc hb hi h1 h2 hr x)

/-- The same where the loaded tiles go through a cast to their own shape. -/
theorem pair_agree_cast (X : IVec (Sh M 4096) 8) (S : FVec Ideal (Sh M 512) .fp8e4m3) (r0 : ℕ) (J : Fin 32) {oc os odl odh : Fin 2 → ℕ}
    (hoc : oc = ![r0, 128 * J.val]) (hos : os = ![r0, 128 * (J.val / 8)])
    (hodl : odl = ![r0, 128 * J.val]) (hodh : odh = ![r0, 4096 + 128 * J.val])
    {ic is idl idh} {hc : (Sh R 128).Bitcasts 8 (Sh r 128) 32} {hb : (Sh r 128).Bitcasts 32 (Sh R 128) 8} {hi h1 h2}
    {hv ha : (Sh R 128).ShapeCasts (Sh R 128)} (hr : R = 4 * r) {T : List (View.Piece (Elt Ideal) (Sh M 8192) .bf16)}
    (hT : ∀ p ∈ T, ∀ x, p.2 x = deq X S (p.1.emb x)) :
    ∀ p ∈ (⟨Rect.unit (s := Sh M 8192) odh (Sh R 128).size idh,
              shapeCast (Sh R 128) (scaled (hiWords (r := r) (shapeCast (Sh R 128) (View.ld (Val := Elt Ideal) (S := Sh M 4096) (e' := .i8) X (Rect.unit oc (Sh R 128).size ic)) ha) hc)
                (scl (shapeCast (Sh R 128) (View.ld (Val := Elt Ideal) (S := Sh M 512) (e' := .fp8e4m3) S (Rect.unit os (Sh R 128).size is)) ha) (BitVec.ofNat 32 (16 * (J.val % 8))) hi h1 h2) hb) hv⟩
          :: ⟨Rect.unit (s := Sh M 8192) odl (Sh R 128).size idl,
              shapeCast (Sh R 128) (scaled (loWords (r := r) (shapeCast (Sh R 128) (View.ld (Val := Elt Ideal) (S := Sh M 4096) (e' := .i8) X (Rect.unit oc (Sh R 128).size ic)) ha) hc)
                (scl (shapeCast (Sh R 128) (View.ld (Val := Elt Ideal) (S := Sh M 512) (e' := .fp8e4m3) S (Rect.unit os (Sh R 128).size is)) ha) (BitVec.ofNat 32 (16 * (J.val % 8))) hi h1 h2) hb) hv⟩
          :: T : List (View.Piece (Elt Ideal) (Sh M 8192) .bf16)), ∀ x, p.2 x = deq X S (p.1.emb x) := by
  have e1 : shapeCast (Sh R 128) (View.ld (Val := Elt Ideal) (S := Sh M 4096) (e' := .i8) X (Rect.unit oc (Sh R 128).size ic)) ha
      = (View.ld (Val := Elt Ideal) (S := Sh M 4096) (e' := .i8) X (Rect.unit oc (Sh R 128).size ic)) := shapeCast_self _ ha
  have e2 : shapeCast (Sh R 128) (View.ld (Val := Elt Ideal) (S := Sh M 512) (e' := .fp8e4m3) S (Rect.unit os (Sh R 128).size is)) ha
      = (View.ld (Val := Elt Ideal) (S := Sh M 512) (e' := .fp8e4m3) S (Rect.unit os (Sh R 128).size is)) := shapeCast_self _ ha
  rw [e1, e2]
  exact pair_agree X S r0 J hoc hos hodl hodh hr hT

end Cert.Chunk
-- ==== Proof.KernelScratch.lean ====
module

public import proofs.«01_k».proof.Proof.Gen.KernelIdeal.Value
public import proofs.«01_k».proof.Proof.Chunk

/-
  The activations' scratch: what the loop over rows of 32 leaves in it.
-/

@[expose] public section

set_option maxRecDepth 65536
set_option maxHeartbeats 4000000

noncomputable section

namespace Cert.KernelScratch

open Idealize.ShloMosaic hiding ix2 ix3
open Idealize.ShloMosaic.ValueIdx
open Cert.Chunk Cert.KernelIdeal Cert.KernelIdeal.Gen

/-- One chunk of 32 rows: what the trip stores is the two pieces of the dequantized rows. -/
theorem xpair (X : IVec (Sh 1024 4096) 8) (S : FVec Ideal (Sh 1024 512) .fp8e4m3) (r0 : ℕ) (J : Fin 32) {oc os odl odh : Fin 2 → ℕ}
    (hoc : oc = ![r0, 128 * J.val]) (hos : os = ![r0, 128 * (J.val / 8)])
    (hodl : odl = ![r0, 128 * J.val]) (hodh : odh = ![r0, 4096 + 128 * J.val])
    (ic : ∀ a, oc a + S32x128.size a ≤ S1024x4096.size a) (is : ∀ a, os a + S32x128.size a ≤ S1024x512.size a) {idl idh}
    {ph pl : FVec Ideal S32x128 .bf16}
    (hh : ph = shapeCast S32x128 (scaled (hiWords (r := 8)
        (shapeCast S32x128 (View.ld (Val := Elt Ideal) (S := S1024x4096) (e' := .i8) X (Rect.unit oc S32x128.size ic)) shapeCasts_S32x128_S32x128)
        bitcasts_S32x128_w8_S8x128_w32)
      (scl (shapeCast S32x128 (View.ld (Val := Elt Ideal) (S := S1024x512) (e' := .fp8e4m3) S (Rect.unit os S32x128.size is)) shapeCasts_S32x128_S32x128)
        (BitVec.ofNat 32 (16 * (J.val % 8))) iota_S32x128_d1_w32 shapeCasts_S32x128_S32x128x1 shapeCasts_S32x128x1_S32x128)
      bitcasts_S8x128_w32_S32x128_w8) shapeCasts_S32x128_S32x128)
    (hl : pl = shapeCast S32x128 (scaled (loWords (r := 8)
        (shapeCast S32x128 (View.ld (Val := Elt Ideal) (S := S1024x4096) (e' := .i8) X (Rect.unit oc S32x128.size ic)) shapeCasts_S32x128_S32x128)
        bitcasts_S32x128_w8_S8x128_w32)
      (scl (shapeCast S32x128 (View.ld (Val := Elt Ideal) (S := S1024x512) (e' := .fp8e4m3) S (Rect.unit os S32x128.size is)) shapeCasts_S32x128_S32x128)
        (BitVec.ofNat 32 (16 * (J.val % 8))) iota_S32x128_d1_w32 shapeCasts_S32x128_S32x128x1 shapeCasts_S32x128x1_S32x128)
      bitcasts_S8x128_w32_S32x128_w8) shapeCasts_S32x128_S32x128)
    {T : List (View.Piece (Elt Ideal) S1024x8192 .bf16)} (hT : ∀ p ∈ T, ∀ x, p.2 x = deq X S (p.1.emb x)) :
    ∀ p ∈ (⟨Rect.unit (s := S1024x8192) odh S32x128.size idh, ph⟩ :: ⟨Rect.unit (s := S1024x8192) odl S32x128.size idl, pl⟩ :: T
      : List (View.Piece (Elt Ideal) S1024x8192 .bf16)), ∀ x, p.2 x = deq X S (p.1.emb x) := by
  subst hh hl
  exact pair_agree_cast (R := 32) (r := 8) X S r0 J hoc hos hodl hodh (by decide) hT

variable (c : Dev nD) (i : grid0.Coords) (arg2 : Memref sig .tc .smem S8 .f32) (harg2 : arg2.IsWhole) (arg3 : Memref sig .tc .smem S1 .f32) (harg3 :
  arg3.IsWhole) (arg4 : Memref sig .tc .vmem S1024x4096 .i8) (harg4 : arg4.IsWhole) (arg5 : Memref sig .tc .vmem S1024x512 .fp8e4m3) (harg5 :
  arg5.IsWhole) (arg6 : Memref sig .tc .vmem S512x4096 .i8) (harg6 : arg6.IsWhole) (arg7 : Memref sig .tc .vmem S512x512 .fp8e4m3) (harg7 :
  arg7.IsWhole) (arg8 : Memref sig .tc .vmem S1024x512 .bf16) (harg8 : arg8.IsWhole) (arg9 : Memref sig .tc .vmem S1024x8192 .bf16) (harg9 :
  arg9.IsWhole) (arg10 : Memref sig .tc .vmem S512x8192 .bf16) (harg10 : arg10.IsWhole)
  (k0_h1 : k0_cond1 i = 1#1) (X4 : BufTy.Contents (Elt Ideal) arg4.view.ty) (X5 : BufTy.Contents (Elt Ideal) arg5.view.ty)

/-- Every piece one trip stores is the dequantized rows' piece there. -/
theorem trip_agree (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 k0_h1 X4 X5 k,
      ∀ x, p.2 x = deq (arg4.view.read (Elt Ideal) X4) (arg5.view.read (Elt Ideal) X5) (p.1.emb x) := by
  unfold tripL_k0_t1 trip_k0_t1
  dsimp only
  refine xpair (arg4.view.read (Elt Ideal) X4) (arg5.view.read (Elt Ideal) X5) _ 31 (k0_off98_eq k) (k0_off77_eq k) (k0_off99_eq k) (k0_off100_eq k)
    (k0_off98_inb i k k0_h1) (k0_off77_inb i k k0_h1) (by sl_kernel_rfl) (by sl_kernel_rfl) ?_
  refine xpair (arg4.view.read (Elt Ideal) X4) (arg5.view.read (Elt Ideal) X5) _ 30 (k0_off95_eq k) (k0_off77_eq k) (k0_off96_eq k) (k0_off97_eq k)
    (k0_off95_inb i k k0_h1) (k0_off77_inb i k k0_h1) (by sl_kernel_rfl) (by sl_kernel_rfl) ?_
  refine xpair (arg4.view.read (Elt Ideal) X4) (arg5.view.read (Elt Ideal) X5) _ 29 (k0_off92_eq k) (k0_off77_eq k) (k0_off93_eq k) (k0_off94_eq k)
    (k0_off92_inb i k k0_h1) (k0_off77_inb i k k0_h1) (by sl_kernel_rfl) (by sl_kernel_rfl) ?_
  refine xpair (arg4.view.read (Elt Ideal) X4) (arg5.view.read (Elt Ideal) X5) _ 28 (k0_off89_eq k) (k0_off77_eq k) (k0_off90_eq k) (k0_off91_eq k)
    (k0_off89_inb i k k0_h1) (k0_off77_inb i k k0_h1) (by sl_kernel_rfl) (by sl_kernel_rfl) ?_
  refine xpair (arg4.view.read (Elt Ideal) X4) (arg5.view.read (Elt Ideal) X5) _ 27 (k0_off86_eq k) (k0_off77_eq k) (k0_off87_eq k) (k0_off88_eq k)
    (k0_off86_inb i k k0_h1) (k0_off77_inb i k k0_h1) (by sl_kernel_rfl) (by sl_kernel_rfl) ?_
  refine xpair (arg4.view.read (Elt Ideal) X4) (arg5.view.read (Elt Ideal) X5) _ 26 (k0_off83_eq k) (k0_off77_eq k) (k0_off84_eq k) (k0_off85_eq k)
    (k0_off83_inb i k k0_h1) (k0_off77_inb i k k0_h1) (by sl_kernel_rfl) (by sl_kernel_rfl) ?_
  refine xpair (arg4.view.read (Elt Ideal) X4) (arg5.view.read (Elt Ideal) X5) _ 25 (k0_off80_eq k) (k0_off77_eq k) (k0_off81_eq k) (k0_off82_eq k)
    (k0_off80_inb i k k0_h1) (k0_off77_inb i k k0_h1) (by sl_kernel_rfl) (by sl_kernel_rfl) ?_
  refine xpair (arg4.view.read (Elt Ideal) X4) (arg5.view.read (Elt Ideal) X5) _ 24 (k0_off76_eq k) (k0_off77_eq k) (k0_off78_eq k) (k0_off79_eq k)
    (k0_off76_inb i k k0_h1) (k0_off77_inb i k k0_h1) (by sl_kernel_rfl) (by sl_kernel_rfl) ?_
  refine xpair (arg4.view.read (Elt Ideal) X4) (arg5.view.read (Elt Ideal) X5) _ 23 (k0_off73_eq k) (k0_off52_eq k) (k0_off74_eq k) (k0_off75_eq k)
    (k0_off73_inb i k k0_h1) (k0_off52_inb i k k0_h1) (by sl_kernel_rfl) (by sl_kernel_rfl) ?_
  refine xpair (arg4.view.read (Elt Ideal) X4) (arg5.view.read (Elt Ideal) X5) _ 22 (k0_off70_eq k) (k0_off52_eq k) (k0_off71_eq k) (k0_off72_eq k)
    (k0_off70_inb i k k0_h1) (k0_off52_inb i k k0_h1) (by sl_kernel_rfl) (by sl_kernel_rfl) ?_
  refine xpair (arg4.view.read (Elt Ideal) X4) (arg5.view.read (Elt Ideal) X5) _ 21 (k0_off67_eq k) (k0_off52_eq k) (k0_off68_eq k) (k0_off69_eq k)
    (k0_off67_inb i k k0_h1) (k0_off52_inb i k k0_h1) (by sl_kernel_rfl) (by sl_kernel_rfl) ?_
  refine xpair (arg4.view.read (Elt Ideal) X4) (arg5.view.read (Elt Ideal) X5) _ 20 (k0_off64_eq k) (k0_off52_eq k) (k0_off65_eq k) (k0_off66_eq k)
    (k0_off64_inb i k k0_h1) (k0_off52_inb i k k0_h1) (by sl_kernel_rfl) (by sl_kernel_rfl) ?_
  refine xpair (arg4.view.read (Elt Ideal) X4) (arg5.view.read (Elt Ideal) X5) _ 19 (k0_off61_eq k) (k0_off52_eq k) (k0_off62_eq k) (k0_off63_eq k)
    (k0_off61_inb i k k0_h1) (k0_off52_inb i k k0_h1) (by sl_kernel_rfl) (by sl_kernel_rfl) ?_
  refine xpair (arg4.view.read (Elt Ideal) X4) (arg5.view.read (Elt Ideal) X5) _ 18 (k0_off58_eq k) (k0_off52_eq k) (k0_off59_eq k) (k0_off60_eq k)
    (k0_off58_inb i k k0_h1) (k0_off52_inb i k k0_h1) (by sl_kernel_rfl) (by sl_kernel_rfl) ?_
  refine xpair (arg4.view.read (Elt Ideal) X4) (arg5.view.read (Elt Ideal) X5) _ 17 (k0_off55_eq k) (k0_off52_eq k) (k0_off56_eq k) (k0_off57_eq k)
    (k0_off55_inb i k k0_h1) (k0_off52_inb i k k0_h1) (by sl_kernel_rfl) (by sl_kernel_rfl) ?_
  refine xpair (arg4.view.read (Elt Ideal) X4) (arg5.view.read (Elt Ideal) X5) _ 16 (k0_off51_eq k) (k0_off52_eq k) (k0_off53_eq k) (k0_off54_eq k)
    (k0_off51_inb i k k0_h1) (k0_off52_inb i k k0_h1) (by sl_kernel_rfl) (by sl_kernel_rfl) ?_
  refine xpair (arg4.view.read (Elt Ideal) X4) (arg5.view.read (Elt Ideal) X5) _ 15 (k0_off48_eq k) (k0_off27_eq k) (k0_off49_eq k) (k0_off50_eq k)
    (k0_off48_inb i k k0_h1) (k0_off27_inb i k k0_h1) (by sl_kernel_rfl) (by sl_kernel_rfl) ?_
  refine xpair (arg4.view.read (Elt Ideal) X4) (arg5.view.read (Elt Ideal) X5) _ 14 (k0_off45_eq k) (k0_off27_eq k) (k0_off46_eq k) (k0_off47_eq k)
    (k0_off45_inb i k k0_h1) (k0_off27_inb i k k0_h1) (by sl_kernel_rfl) (by sl_kernel_rfl) ?_
  refine xpair (arg4.view.read (Elt Ideal) X4) (arg5.view.read (Elt Ideal) X5) _ 13 (k0_off42_eq k) (k0_off27_eq k) (k0_off43_eq k) (k0_off44_eq k)
    (k0_off42_inb i k k0_h1) (k0_off27_inb i k k0_h1) (by sl_kernel_rfl) (by sl_kernel_rfl) ?_
  refine xpair (arg4.view.read (Elt Ideal) X4) (arg5.view.read (Elt Ideal) X5) _ 12 (k0_off39_eq k) (k0_off27_eq k) (k0_off40_eq k) (k0_off41_eq k)
    (k0_off39_inb i k k0_h1) (k0_off27_inb i k k0_h1) (by sl_kernel_rfl) (by sl_kernel_rfl) ?_
  refine xpair (arg4.view.read (Elt Ideal) X4) (arg5.view.read (Elt Ideal) X5) _ 11 (k0_off36_eq k) (k0_off27_eq k) (k0_off37_eq k) (k0_off38_eq k)
    (k0_off36_inb i k k0_h1) (k0_off27_inb i k k0_h1) (by sl_kernel_rfl) (by sl_kernel_rfl) ?_
  refine xpair (arg4.view.read (Elt Ideal) X4) (arg5.view.read (Elt Ideal) X5) _ 10 (k0_off33_eq k) (k0_off27_eq k) (k0_off34_eq k) (k0_off35_eq k)
    (k0_off33_inb i k k0_h1) (k0_off27_inb i k k0_h1) (by sl_kernel_rfl) (by sl_kernel_rfl) ?_
  refine xpair (arg4.view.read (Elt Ideal) X4) (arg5.view.read (Elt Ideal) X5) _ 9 (k0_off30_eq k) (k0_off27_eq k) (k0_off31_eq k) (k0_off32_eq k)
    (k0_off30_inb i k k0_h1) (k0_off27_inb i k k0_h1) (by sl_kernel_rfl) (by sl_kernel_rfl) ?_
  refine xpair (arg4.view.read (Elt Ideal) X4) (arg5.view.read (Elt Ideal) X5) _ 8 (k0_off26_eq k) (k0_off27_eq k) (k0_off28_eq k) (k0_off29_eq k)
    (k0_off26_inb i k k0_h1) (k0_off27_inb i k k0_h1) (by sl_kernel_rfl) (by sl_kernel_rfl) ?_
  refine xpair (arg4.view.read (Elt Ideal) X4) (arg5.view.read (Elt Ideal) X5) _ 7 (k0_off23_eq k) (k0_off2_eq k) (k0_off24_eq k) (k0_off25_eq k)
    (k0_off23_inb i k k0_h1) (k0_off2_inb i k k0_h1) (by sl_kernel_rfl) (by sl_kernel_rfl) ?_
  refine xpair (arg4.view.read (Elt Ideal) X4) (arg5.view.read (Elt Ideal) X5) _ 6 (k0_off20_eq k) (k0_off2_eq k) (k0_off21_eq k) (k0_off22_eq k)
    (k0_off20_inb i k k0_h1) (k0_off2_inb i k k0_h1) (by sl_kernel_rfl) (by sl_kernel_rfl) ?_
  refine xpair (arg4.view.read (Elt Ideal) X4) (arg5.view.read (Elt Ideal) X5) _ 5 (k0_off17_eq k) (k0_off2_eq k) (k0_off18_eq k) (k0_off19_eq k)
    (k0_off17_inb i k k0_h1) (k0_off2_inb i k k0_h1) (by sl_kernel_rfl) (by sl_kernel_rfl) ?_
  refine xpair (arg4.view.read (Elt Ideal) X4) (arg5.view.read (Elt Ideal) X5) _ 4 (k0_off14_eq k) (k0_off2_eq k) (k0_off15_eq k) (k0_off16_eq k)
    (k0_off14_inb i k k0_h1) (k0_off2_inb i k k0_h1) (by sl_kernel_rfl) (by sl_kernel_rfl) ?_
  refine xpair (arg4.view.read (Elt Ideal) X4) (arg5.view.read (Elt Ideal) X5) _ 3 (k0_off11_eq k) (k0_off2_eq k) (k0_off12_eq k) (k0_off13_eq k)
    (k0_off11_inb i k k0_h1) (k0_off2_inb i k k0_h1) (by sl_kernel_rfl) (by sl_kernel_rfl) ?_
  refine xpair (arg4.view.read (Elt Ideal) X4) (arg5.view.read (Elt Ideal) X5) _ 2 (k0_off8_eq k) (k0_off2_eq k) (k0_off9_eq k) (k0_off10_eq k)
    (k0_off8_inb i k k0_h1) (k0_off2_inb i k k0_h1) (by sl_kernel_rfl) (by sl_kernel_rfl) ?_
  refine xpair (arg4.view.read (Elt Ideal) X4) (arg5.view.read (Elt Ideal) X5) _ 1 (k0_off5_eq k) (k0_off2_eq k) (k0_off6_eq k) (k0_off7_eq k)
    (k0_off5_inb i k k0_h1) (k0_off2_inb i k k0_h1) (by sl_kernel_rfl) (by sl_kernel_rfl) ?_
  refine xpair (arg4.view.read (Elt Ideal) X4) (arg5.view.read (Elt Ideal) X5) _ 0 (k0_off1_eq k) (k0_off2_eq k) (k0_off3_eq k) (k0_off4_eq k)
    (k0_off1_inb i k k0_h1) (k0_off2_inb i k k0_h1) (by sl_kernel_rfl) (by sl_kernel_rfl) ?_
  exact fun p hp => absurd hp List.not_mem_nil

/-- Every piece the first `n` trips store is the dequantized rows' piece there. -/
theorem pb_agree (n : ℕ) (hn : n ≤ k0_t1_loop.trips) :
    ∀ p ∈ pb_k0_t1 (F := Ideal) Variants.none c none i arg2 harg2 arg3 harg3 arg4 harg4 arg5 harg5 arg6 harg6 arg7 harg7 arg8 harg8 arg9 harg9 arg10 harg10 k0_h1 X4 X5 n,
      ∀ x, p.2 x = deq (arg4.view.read (Elt Ideal) X4) (arg5.view.read (Elt Ideal) X5) (p.1.emb x) := by
  induction n with
  | zero => exact fun p hp => absurd hp List.not_mem_nil
  | succ n ih =>
    rw [pb_k0_t1_succ (F := Ideal) Variants.none c none i arg2 harg2 arg3 harg3 arg4 harg4 arg5 harg5 arg6 harg6 arg7 harg7 arg8 harg8 arg9 harg9 arg10 harg10 k0_h1 X4 X5 ⟨n, hn⟩]
    exact List.forall_mem_append.2 ⟨trip_agree c i arg2 harg2 arg3 harg3 arg4 harg4 arg5 harg5 arg6 harg6 arg7 harg7 arg8 harg8 arg9 harg9 arg10 harg10 k0_h1 X4 X5 ⟨n, hn⟩, ih (Nat.le_of_succ_le hn)⟩

variable (hc0 : cond0_0 i) (x0 : Vec Ideal S8 .f32) (x1 : Vec Ideal S1 .f32) (x2 : Vec Ideal S1024x4096 .i8) (x3 : Vec Ideal S1024x512 .fp8e4m3)
  (x4 : Vec Ideal S512x4096 .i8) (x5 : Vec Ideal S512x512 .fp8e4m3)

/-- Every piece the first point of a run stores into the activations' scratch is the dequantized rows' piece there. -/
theorem scratch_agree :
    ∀ p ∈ (kernelRun0_A (F := Ideal) c i arg2 harg2 arg3 harg3 arg4 harg4 arg5 harg5 arg6 harg6 arg7 harg7 arg8 harg8 arg9 harg9 arg10 harg10 hc0 x0 x1 x2 x3 x4 x5).2.1,
      ∀ x, p.2 x = deq x2 x3 (p.1.emb x) := by
  have h := pb_agree c i arg2 harg2 arg3 harg3 arg4 harg4 arg5 harg5 arg6 harg6 arg7 harg7 arg8 harg8 arg9 harg9 arg10 harg10 hc0 (harg4.unread x2) (harg5.unread x3) _ le_rfl
  rw [harg4.read_unread, harg5.read_unread] at h
  exact h

/-- The activations' scratch after the first point of a run: the block's dequantized rows. -/
theorem sout_eq :
    sout0_A_0 (F := Ideal) c i arg2 harg2 arg3 harg3 arg4 harg4 arg5 harg5 arg6 harg6 arg7 harg7 arg8 harg8 arg9 harg9 arg10 harg10 hc0 x0 x1 x2 x3 x4 x5 = deq x2 x3 := by
  have hcov := scover0_A_0 (F := Ideal) c i arg2 harg2 arg3 harg3 arg4 harg4 arg5 harg5 arg6 harg6 arg7 harg7 arg8 harg8 arg9 harg9 arg10 harg10 hc0 x0 x1 x2 x3 x4 x5
  unfold sout0_A_0
  rw [View.read_writes_eq_canon _ _ _ hcov]
  funext y
  exact View.canon_apply_of_pieces _ _ (scratch_agree c i arg2 harg2 arg3 harg3 arg4 harg4 arg5 harg5 arg6 harg6 arg7 harg7 arg8 harg8 arg9 harg9 arg10 harg10 hc0 x0 x1 x2 x3 x4 x5) y (hcov y)

/-- What the first point of a run reads back of that scratch: the same rows. -/
theorem scratch_read (L : List (View.Piece (Elt Ideal) S1024x8192 .bf16))
    (hL : L = (kernelRun0_A (F := Ideal) c i arg2 harg2 arg3 harg3 arg4 harg4 arg5 harg5 arg6 harg6 arg7 harg7 arg8 harg8 arg9 harg9 arg10 harg10 hc0 x0 x1 x2 x3 x4 x5).2.1) :
    arg9.view.readCov L (Rect.unit ![0, 0] S1024x8192.size inb_S1024x8192_S1024x8192_0_0).toLoadRect = deq x2 x3 := by
  subst hL
  have hcov := scover0_A_0 (F := Ideal) c i arg2 harg2 arg3 harg3 arg4 harg4 arg5 harg5 arg6 harg6 arg7 harg7 arg8 harg8 arg9 harg9 arg10 harg10 hc0 x0 x1 x2 x3 x4 x5
  rw [View.readCov_eq_canon_ld _ _ _ hcov]
  have e : View.canon (kernelRun0_A (F := Ideal) c i arg2 harg2 arg3 harg3 arg4 harg4 arg5 harg5 arg6 harg6 arg7 harg7 arg8 harg8 arg9 harg9 arg10 harg10 hc0 x0 x1 x2 x3 x4 x5).2.1 = deq x2 x3 := funext fun y =>
    View.canon_apply_of_pieces _ _ (scratch_agree c i arg2 harg2 arg3 harg3 arg4 harg4 arg5 harg5 arg6 harg6 arg7 harg7 arg8 harg8 arg9 harg9 arg10 harg10 hc0 x0 x1 x2 x3 x4 x5) y (hcov y)
  rw [e]
  exact View.ld_unit_zero (funext fun a => by fin_cases a <;> rfl) _ _

end Cert.KernelScratch
-- ==== Proof.KernelWeights.lean ====
module

public import proofs.«01_k».proof.Proof.Gen.KernelIdeal.Value
public import proofs.«01_k».proof.Proof.Chunk

/-
  The weights' scratch: what every grid point leaves in it before it multiplies.
-/

@[expose] public section

set_option maxRecDepth 65536
set_option maxHeartbeats 4000000

noncomputable section

namespace Cert.KernelWeights

open Idealize.ShloMosaic hiding ix2 ix3
open Idealize.ShloMosaic.ValueIdx
open Cert.Chunk Cert.KernelIdeal Cert.KernelIdeal.Gen

/-- One chunk of the 512 rows: the two pieces stored are the two pieces of the dequantized rows. -/
theorem wpair (X : IVec (Sh 512 4096) 8) (S : FVec Ideal (Sh 512 512) .fp8e4m3) (J : Fin 32) {oc os odl odh : Fin 2 → ℕ}
    (hoc : oc = ![0, 128 * J.val]) (hos : os = ![0, 128 * (J.val / 8)])
    (hodl : odl = ![0, 128 * J.val]) (hodh : odh = ![0, 4096 + 128 * J.val])
    (ic : ∀ a, oc a + S512x128.size a ≤ S512x4096.size a) (is : ∀ a, os a + S512x128.size a ≤ S512x512.size a) {idl idh}
    {ph pl : FVec Ideal S512x128 .bf16}
    (hh : ph = shapeCast S512x128 (scaled (hiWords (r := 128)
        (View.ld (Val := Elt Ideal) (S := S512x4096) (e' := .i8) X (Rect.unit oc S512x128.size ic)) bitcasts_S512x128_w8_S128x128_w32)
      (scl (View.ld (Val := Elt Ideal) (S := S512x512) (e' := .fp8e4m3) S (Rect.unit os S512x128.size is))
        (BitVec.ofNat 32 (16 * (J.val % 8))) iota_S512x128_d1_w32 shapeCasts_S512x128_S512x128x1 shapeCasts_S512x128x1_S512x128)
      bitcasts_S128x128_w32_S512x128_w8) shapeCasts_S512x128_S512x128)
    (hl : pl = shapeCast S512x128 (scaled (loWords (r := 128)
        (View.ld (Val := Elt Ideal) (S := S512x4096) (e' := .i8) X (Rect.unit oc S512x128.size ic)) bitcasts_S512x128_w8_S128x128_w32)
      (scl (View.ld (Val := Elt Ideal) (S := S512x512) (e' := .fp8e4m3) S (Rect.unit os S512x128.size is))
        (BitVec.ofNat 32 (16 * (J.val % 8))) iota_S512x128_d1_w32 shapeCasts_S512x128_S512x128x1 shapeCasts_S512x128x1_S512x128)
      bitcasts_S128x128_w32_S512x128_w8) shapeCasts_S512x128_S512x128)
    {T : List (View.Piece (Elt Ideal) S512x8192 .bf16)} (hT : ∀ p ∈ T, ∀ x, p.2 x = deq X S (p.1.emb x)) :
    ∀ p ∈ (⟨Rect.unit (s := S512x8192) odh S512x128.size idh, ph⟩ :: ⟨Rect.unit (s := S512x8192) odl S512x128.size idl, pl⟩ :: T
      : List (View.Piece (Elt Ideal) S512x8192 .bf16)), ∀ x, p.2 x = deq X S (p.1.emb x) := by
  subst hh hl
  exact pair_agree (R := 512) (r := 128) X S 0 J hoc hos hodl hodh (by decide) hT

variable (c : Dev nD) (arg6 : Memref sig .tc .vmem S512x4096 .i8) (harg6 : arg6.IsWhole) (arg7 : Memref sig .tc .vmem S512x512 .fp8e4m3)
  (harg7 : arg7.IsWhole) (arg10 : Memref sig .tc .vmem S512x8192 .bf16) (x4 : Vec Ideal S512x4096 .i8) (x5 : Vec Ideal S512x512 .fp8e4m3)

/-- Every piece a grid point stores into the weights' scratch is the dequantized rows' piece there. -/
theorem agree_read :
    ∀ p ∈ kernelRun0_B.sl.HS1_64 (F := Ideal) c arg6 harg6 arg7 harg7 x4 x5,
      ∀ x, p.2 x = deq (arg6.view.read (Elt Ideal) (harg6.unread x4)) (arg7.view.read (Elt Ideal) (harg7.unread x5)) (p.1.emb x) := by
  unfold kernelRun0_B.sl.HS1_64
  refine wpair (arg6.view.read (Elt Ideal) (harg6.unread x4)) (arg7.view.read (Elt Ideal) (harg7.unread x5)) 31 (oc := ![0, 3968]) (os := ![0, 384]) rfl rfl rfl rfl
    inb_S512x4096_S512x128_0_3968 inb_S512x512_S512x128_0_384 (by sl_kernel_rfl) (by sl_kernel_rfl) ?_
  refine wpair (arg6.view.read (Elt Ideal) (harg6.unread x4)) (arg7.view.read (Elt Ideal) (harg7.unread x5)) 30 (oc := ![0, 3840]) (os := ![0, 384]) rfl rfl rfl rfl
    inb_S512x4096_S512x128_0_3840 inb_S512x512_S512x128_0_384 (by sl_kernel_rfl) (by sl_kernel_rfl) ?_
  refine wpair (arg6.view.read (Elt Ideal) (harg6.unread x4)) (arg7.view.read (Elt Ideal) (harg7.unread x5)) 29 (oc := ![0, 3712]) (os := ![0, 384]) rfl rfl rfl rfl
    inb_S512x4096_S512x128_0_3712 inb_S512x512_S512x128_0_384 (by sl_kernel_rfl) (by sl_kernel_rfl) ?_
  refine wpair (arg6.view.read (Elt Ideal) (harg6.unread x4)) (arg7.view.read (Elt Ideal) (harg7.unread x5)) 28 (oc := ![0, 3584]) (os := ![0, 384]) rfl rfl rfl rfl
    inb_S512x4096_S512x128_0_3584 inb_S512x512_S512x128_0_384 (by sl_kernel_rfl) (by sl_kernel_rfl) ?_
  refine wpair (arg6.view.read (Elt Ideal) (harg6.unread x4)) (arg7.view.read (Elt Ideal) (harg7.unread x5)) 27 (oc := ![0, 3456]) (os := ![0, 384]) rfl rfl rfl rfl
    inb_S512x4096_S512x128_0_3456 inb_S512x512_S512x128_0_384 (by sl_kernel_rfl) (by sl_kernel_rfl) ?_
  refine wpair (arg6.view.read (Elt Ideal) (harg6.unread x4)) (arg7.view.read (Elt Ideal) (harg7.unread x5)) 26 (oc := ![0, 3328]) (os := ![0, 384]) rfl rfl rfl rfl
    inb_S512x4096_S512x128_0_3328 inb_S512x512_S512x128_0_384 (by sl_kernel_rfl) (by sl_kernel_rfl) ?_
  refine wpair (arg6.view.read (Elt Ideal) (harg6.unread x4)) (arg7.view.read (Elt Ideal) (harg7.unread x5)) 25 (oc := ![0, 3200]) (os := ![0, 384]) rfl rfl rfl rfl
    inb_S512x4096_S512x128_0_3200 inb_S512x512_S512x128_0_384 (by sl_kernel_rfl) (by sl_kernel_rfl) ?_
  refine wpair (arg6.view.read (Elt Ideal) (harg6.unread x4)) (arg7.view.read (Elt Ideal) (harg7.unread x5)) 24 (oc := ![0, 3072]) (os := ![0, 384]) rfl rfl rfl rfl
    inb_S512x4096_S512x128_0_3072 inb_S512x512_S512x128_0_384 (by sl_kernel_rfl) (by sl_kernel_rfl) ?_
  refine wpair (arg6.view.read (Elt Ideal) (harg6.unread x4)) (arg7.view.read (Elt Ideal) (harg7.unread x5)) 23 (oc := ![0, 2944]) (os := ![0, 256]) rfl rfl rfl rfl
    inb_S512x4096_S512x128_0_2944 inb_S512x512_S512x128_0_256 (by sl_kernel_rfl) (by sl_kernel_rfl) ?_
  refine wpair (arg6.view.read (Elt Ideal) (harg6.unread x4)) (arg7.view.read (Elt Ideal) (harg7.unread x5)) 22 (oc := ![0, 2816]) (os := ![0, 256]) rfl rfl rfl rfl
    inb_S512x4096_S512x128_0_2816 inb_S512x512_S512x128_0_256 (by sl_kernel_rfl) (by sl_kernel_rfl) ?_
  refine wpair (arg6.view.read (Elt Ideal) (harg6.unread x4)) (arg7.view.read (Elt Ideal) (harg7.unread x5)) 21 (oc := ![0, 2688]) (os := ![0, 256]) rfl rfl rfl rfl
    inb_S512x4096_S512x128_0_2688 inb_S512x512_S512x128_0_256 (by sl_kernel_rfl) (by sl_kernel_rfl) ?_
  refine wpair (arg6.view.read (Elt Ideal) (harg6.unread x4)) (arg7.view.read (Elt Ideal) (harg7.unread x5)) 20 (oc := ![0, 2560]) (os := ![0, 256]) rfl rfl rfl rfl
    inb_S512x4096_S512x128_0_2560 inb_S512x512_S512x128_0_256 (by sl_kernel_rfl) (by sl_kernel_rfl) ?_
  refine wpair (arg6.view.read (Elt Ideal) (harg6.unread x4)) (arg7.view.read (Elt Ideal) (harg7.unread x5)) 19 (oc := ![0, 2432]) (os := ![0, 256]) rfl rfl rfl rfl
    inb_S512x4096_S512x128_0_2432 inb_S512x512_S512x128_0_256 (by sl_kernel_rfl) (by sl_kernel_rfl) ?_
  refine wpair (arg6.view.read (Elt Ideal) (harg6.unread x4)) (arg7.view.read (Elt Ideal) (harg7.unread x5)) 18 (oc := ![0, 2304]) (os := ![0, 256]) rfl rfl rfl rfl
    inb_S512x4096_S512x128_0_2304 inb_S512x512_S512x128_0_256 (by sl_kernel_rfl) (by sl_kernel_rfl) ?_
  refine wpair (arg6.view.read (Elt Ideal) (harg6.unread x4)) (arg7.view.read (Elt Ideal) (harg7.unread x5)) 17 (oc := ![0, 2176]) (os := ![0, 256]) rfl rfl rfl rfl
    inb_S512x4096_S512x128_0_2176 inb_S512x512_S512x128_0_256 (by sl_kernel_rfl) (by sl_kernel_rfl) ?_
  refine wpair (arg6.view.read (Elt Ideal) (harg6.unread x4)) (arg7.view.read (Elt Ideal) (harg7.unread x5)) 16 (oc := ![0, 2048]) (os := ![0, 256]) rfl rfl rfl rfl
    inb_S512x4096_S512x128_0_2048 inb_S512x512_S512x128_0_256 (by sl_kernel_rfl) (by sl_kernel_rfl) ?_
  refine wpair (arg6.view.read (Elt Ideal) (harg6.unread x4)) (arg7.view.read (Elt Ideal) (harg7.unread x5)) 15 (oc := ![0, 1920]) (os := ![0, 128]) rfl rfl rfl rfl
    inb_S512x4096_S512x128_0_1920 inb_S512x512_S512x128_0_128 (by sl_kernel_rfl) (by sl_kernel_rfl) ?_
  refine wpair (arg6.view.read (Elt Ideal) (harg6.unread x4)) (arg7.view.read (Elt Ideal) (harg7.unread x5)) 14 (oc := ![0, 1792]) (os := ![0, 128]) rfl rfl rfl rfl
    inb_S512x4096_S512x128_0_1792 inb_S512x512_S512x128_0_128 (by sl_kernel_rfl) (by sl_kernel_rfl) ?_
  refine wpair (arg6.view.read (Elt Ideal) (harg6.unread x4)) (arg7.view.read (Elt Ideal) (harg7.unread x5)) 13 (oc := ![0, 1664]) (os := ![0, 128]) rfl rfl rfl rfl
    inb_S512x4096_S512x128_0_1664 inb_S512x512_S512x128_0_128 (by sl_kernel_rfl) (by sl_kernel_rfl) ?_
  refine wpair (arg6.view.read (Elt Ideal) (harg6.unread x4)) (arg7.view.read (Elt Ideal) (harg7.unread x5)) 12 (oc := ![0, 1536]) (os := ![0, 128]) rfl rfl rfl rfl
    inb_S512x4096_S512x128_0_1536 inb_S512x512_S512x128_0_128 (by sl_kernel_rfl) (by sl_kernel_rfl) ?_
  refine wpair (arg6.view.read (Elt Ideal) (harg6.unread x4)) (arg7.view.read (Elt Ideal) (harg7.unread x5)) 11 (oc := ![0, 1408]) (os := ![0, 128]) rfl rfl rfl rfl
    inb_S512x4096_S512x128_0_1408 inb_S512x512_S512x128_0_128 (by sl_kernel_rfl) (by sl_kernel_rfl) ?_
  refine wpair (arg6.view.read (Elt Ideal) (harg6.unread x4)) (arg7.view.read (Elt Ideal) (harg7.unread x5)) 10 (oc := ![0, 1280]) (os := ![0, 128]) rfl rfl rfl rfl
    inb_S512x4096_S512x128_0_1280 inb_S512x512_S512x128_0_128 (by sl_kernel_rfl) (by sl_kernel_rfl) ?_
  refine wpair (arg6.view.read (Elt Ideal) (harg6.unread x4)) (arg7.view.read (Elt Ideal) (harg7.unread x5)) 9 (oc := ![0, 1152]) (os := ![0, 128]) rfl rfl rfl rfl
    inb_S512x4096_S512x128_0_1152 inb_S512x512_S512x128_0_128 (by sl_kernel_rfl) (by sl_kernel_rfl) ?_
  refine wpair (arg6.view.read (Elt Ideal) (harg6.unread x4)) (arg7.view.read (Elt Ideal) (harg7.unread x5)) 8 (oc := ![0, 1024]) (os := ![0, 128]) rfl rfl rfl rfl
    inb_S512x4096_S512x128_0_1024 inb_S512x512_S512x128_0_128 (by sl_kernel_rfl) (by sl_kernel_rfl) ?_
  refine wpair (arg6.view.read (Elt Ideal) (harg6.unread x4)) (arg7.view.read (Elt Ideal) (harg7.unread x5)) 7 (oc := ![0, 896]) (os := ![0, 0]) rfl rfl rfl rfl
    inb_S512x4096_S512x128_0_896 inb_S512x512_S512x128_0_0 (by sl_kernel_rfl) (by sl_kernel_rfl) ?_
  refine wpair (arg6.view.read (Elt Ideal) (harg6.unread x4)) (arg7.view.read (Elt Ideal) (harg7.unread x5)) 6 (oc := ![0, 768]) (os := ![0, 0]) rfl rfl rfl rfl
    inb_S512x4096_S512x128_0_768 inb_S512x512_S512x128_0_0 (by sl_kernel_rfl) (by sl_kernel_rfl) ?_
  refine wpair (arg6.view.read (Elt Ideal) (harg6.unread x4)) (arg7.view.read (Elt Ideal) (harg7.unread x5)) 5 (oc := ![0, 640]) (os := ![0, 0]) rfl rfl rfl rfl
    inb_S512x4096_S512x128_0_640 inb_S512x512_S512x128_0_0 (by sl_kernel_rfl) (by sl_kernel_rfl) ?_
  refine wpair (arg6.view.read (Elt Ideal) (harg6.unread x4)) (arg7.view.read (Elt Ideal) (harg7.unread x5)) 4 (oc := ![0, 512]) (os := ![0, 0]) rfl rfl rfl rfl
    inb_S512x4096_S512x128_0_512 inb_S512x512_S512x128_0_0 (by sl_kernel_rfl) (by sl_kernel_rfl) ?_
  refine wpair (arg6.view.read (Elt Ideal) (harg6.unread x4)) (arg7.view.read (Elt Ideal) (harg7.unread x5)) 3 (oc := ![0, 384]) (os := ![0, 0]) rfl rfl rfl rfl
    inb_S512x4096_S512x128_0_384 inb_S512x512_S512x128_0_0 (by sl_kernel_rfl) (by sl_kernel_rfl) ?_
  refine wpair (arg6.view.read (Elt Ideal) (harg6.unread x4)) (arg7.view.read (Elt Ideal) (harg7.unread x5)) 2 (oc := ![0, 256]) (os := ![0, 0]) rfl rfl rfl rfl
    inb_S512x4096_S512x128_0_256 inb_S512x512_S512x128_0_0 (by sl_kernel_rfl) (by sl_kernel_rfl) ?_
  refine wpair (arg6.view.read (Elt Ideal) (harg6.unread x4)) (arg7.view.read (Elt Ideal) (harg7.unread x5)) 1 (oc := ![0, 128]) (os := ![0, 0]) rfl rfl rfl rfl
    inb_S512x4096_S512x128_0_128 inb_S512x512_S512x128_0_0 (by sl_kernel_rfl) (by sl_kernel_rfl) ?_
  refine wpair (arg6.view.read (Elt Ideal) (harg6.unread x4)) (arg7.view.read (Elt Ideal) (harg7.unread x5)) 0 (oc := ![0, 0]) (os := ![0, 0]) rfl rfl rfl rfl
    inb_S512x4096_S512x128_0_0 inb_S512x512_S512x128_0_0 (by sl_kernel_rfl) (by sl_kernel_rfl) ?_
  exact fun p hp => absurd hp List.not_mem_nil

/-- The same of the values the two windows hold. -/
theorem agree : ∀ p ∈ kernelRun0_B.sl.HS1_64 (F := Ideal) c arg6 harg6 arg7 harg7 x4 x5, ∀ x, p.2 x = deq x4 x5 (p.1.emb x) := by
  have h := agree_read c arg6 harg6 arg7 harg7 x4 x5
  rw [harg6.read_unread, harg7.read_unread] at h
  exact h

/-- The 64 pieces cover the scratch. -/
theorem cover (y : S512x8192.Idx) : ∃ p ∈ kernelRun0_B.sl.HS1_64 (F := Ideal) c arg6 harg6 arg7 harg7 x4 x5, y ∈ p.1.set :=
  View.cover_of_tiledL (kernelRun0_B.sl.HS1_64 (F := Ideal) c arg6 harg6 arg7 harg7 x4 x5) S512x128.size (by sl_kernel_rfl) y

/-- What a grid point reads back of the weights' scratch: the block's dequantized rows. -/
theorem read_eq (L : List (View.Piece (Elt Ideal) S512x8192 .bf16)) (hL : L = kernelRun0_B.sl.HS1_64 (F := Ideal) c arg6 harg6 arg7 harg7 x4 x5) :
    arg10.view.readCov L (Rect.unit ![0, 0] S512x8192.size inb_S512x8192_S512x8192_0_0).toLoadRect = deq x4 x5 := by
  subst hL
  rw [View.readCov_eq_canon_ld _ _ _ (cover c arg6 harg6 arg7 harg7 x4 x5)]
  have e : View.canon (kernelRun0_B.sl.HS1_64 (F := Ideal) c arg6 harg6 arg7 harg7 x4 x5) = deq x4 x5 := funext fun y =>
    View.canon_apply_of_pieces _ _ (agree c arg6 harg6 arg7 harg7 x4 x5) y (cover c arg6 harg6 arg7 harg7 x4 x5 y)
  rw [e]
  exact View.ld_unit_zero (funext fun a => by fin_cases a <;> rfl) _ _

end Cert.KernelWeights
-- ==== Proof.KernelOut.lean ====
module

public import proofs.«01_k».proof.Proof.KernelScratch
public import proofs.«01_k».proof.Proof.KernelWeights
public import Idealize.ShloMosaic.Lib.MatmulPlain

/-
  What one grid point leaves in its output block, at an index.
-/

@[expose] public section

set_option maxRecDepth 65536
set_option maxHeartbeats 4000000

noncomputable section

namespace Cert.KernelOut

open Idealize.ShloMosaic hiding ix1 ix2 ix3
open Idealize.ShloMosaic.ValueIdx
open Cert.Chunk Cert.KernelIdeal Cert.KernelIdeal.Gen

/-- The kernel's constant 4096. -/
theorem ofBits_4096 : (FloatOps.ofBits .f32 1166016512#32 : Ideal .f32) = ((4096 : ℝ) : EReal) := by
  show Ideal.ofBits .f32 0x45800000#32 = _
  simp [Ideal.ofBits, Ideal.ieee, -EReal.coe_mul]; norm_num

/-- The block a point of row tile `n` leaves: the product of the dequantized rows `A` and `B`, times 4096, times the
    global scale of the row's group of 256, times the weights' global scale. -/
def outBlk (n : ℕ) (g : Vec Ideal S8 .f32) (w : Vec Ideal S1 .f32) (A : FVec Ideal (Sh 1024 8192) .bf16) (B : FVec Ideal (Sh 512 8192) .bf16) :
    Vec Ideal S1024x512 .bf16 := fun y =>
  (((∑ K : Fin 8192, A (ix2 (y 0) K) * B (ix2 (y 1) K)) * ((4096 : ℝ) : EReal) : EReal)
    * g (ix1 ⟨(n * 4 + (y 0).val / 256) % 8, Nat.mod_lt _ (by decide)⟩)) * w (ix1 0)

/-- The product at an index. -/
theorem prod_apply (A : FVec Ideal (Sh 1024 8192) .bf16) (B : FVec Ideal (Sh 512 8192) .bf16) (r : Fin 1024) (s : Fin 512) :
    k0_pay565 (F := Ideal) A B (ix2 r s) = ∑ K : Fin 8192, A (ix2 r K) * B (ix2 s K) := by
  have h := Ideal.matmul_transposedRhs_apply (M := 1024) (K := 8192) (N := 512) none A B (constant S1024x512 .f32 0x00000000#32) r s
  refine Eq.trans (b := FloatOps.matmul (DotDims.transposedRhs 1024 8192 512) none A B (constant S1024x512 .f32 0x00000000#32) (ix2 r s)) (by sl_kernel_rfl) (h.trans ?_)
  show Ideal.ofBits .f32 0x00000000#32 + _ = _
  rw [Ideal.ofBits_zero_f32, zero_add]

/-- A group of 256 rows of the product, scaled. -/
def slab (off : Fin 2 → ℕ) (hs : S1024x512.Slices off S256x512) (acc : FVec Ideal S1024x512 .f32) (g w : Elt Ideal .f32) : FVec Ideal S256x512 .bf16 :=
  truncf .bf16 (mulf (mulf (mulf (extractStridedSlice S256x512 off acc hs) (broadcast S256x512 (FloatOps.ofBits .f32 1166016512#32)))
    (broadcast S256x512 g)) (broadcast S256x512 w)) bitsLt_bf16_f32

/-- Such a group is the block's piece there. -/
theorem slab_piece (n q : ℕ) (hq : q < 4) (g : Vec Ideal S8 .f32) (w : Vec Ideal S1 .f32) (A : FVec Ideal (Sh 1024 8192) .bf16)
    (B : FVec Ideal (Sh 512 8192) .bf16) (inb : ∀ a, (![256 * q, 0] : Fin 2 → ℕ) a + S256x512.size a ≤ S1024x512.size a)
    (hs : S1024x512.Slices ![256 * q, 0] S256x512) (x : S256x512.Idx) :
    slab ![256 * q, 0] hs (k0_pay565 (F := Ideal) A B) (g (ix1 ⟨(n * 4 + q) % 8, Nat.mod_lt _ (by decide)⟩)) (w (ix1 0)) x
      = outBlk n g w A B ((Rect.unit (s := S1024x512) ![256 * q, 0] S256x512.size inb).emb x) := by
  have hx0 : (x 0).val < 256 := (x 0).isLt
  have e0 : (((Rect.unit (s := S1024x512) ![256 * q, 0] S256x512.size inb).emb x) 0).val = 256 * q + (x 0).val := by
    show 256 * q + 1 * (x 0).val = _; omega
  have e1 : (((Rect.unit (s := S1024x512) ![256 * q, 0] S256x512.size inb).emb x) 1).val = (x 1).val := by
    show 0 + 1 * (x 1).val = _; omega
  have hsl := extractStridedSlice_apply ![256 * q, 0] (k0_pay565 (F := Ideal) A B) hs x
    (ix2 (((Rect.unit (s := S1024x512) ![256 * q, 0] S256x512.size inb).emb x) 0) (((Rect.unit (s := S1024x512) ![256 * q, 0] S256x512.size inb).emb x) 1)) (fun a => by
      match a with
      | ⟨0, _⟩ => exact e0
      | ⟨1, _⟩ => exact e1.trans (Nat.zero_add _).symm)
  have hp := hsl.trans (prod_apply A B _ _)
  have eg : (⟨(n * 4 + q) % 8, Nat.mod_lt _ (by decide)⟩ : Fin 8)
      = ⟨(n * 4 + (((Rect.unit (s := S1024x512) ![256 * q, 0] S256x512.size inb).emb x) 0).val / 256) % 8, Nat.mod_lt _ (by decide)⟩ :=
    Fin.ext (by show (n * 4 + q) % 8 = (n * 4 + _ / 256) % 8; rw [e0]; congr 2; omega)
  unfold outBlk
  show ((extractStridedSlice S256x512 ![256 * q, 0] (k0_pay565 (F := Ideal) A B) hs x * (FloatOps.ofBits .f32 1166016512#32 : Ideal .f32) : EReal)
    * g (ix1 ⟨(n * 4 + q) % 8, Nat.mod_lt _ (by decide)⟩)) * w (ix1 0) = _
  rw [hp, ofBits_4096, eg]

/-- The four groups a point stores are the block's four pieces. -/
theorem slabs (n : ℕ) (g : Vec Ideal S8 .f32) (w : Vec Ideal S1 .f32) (A : FVec Ideal (Sh 1024 8192) .bf16) (B : FVec Ideal (Sh 512 8192) .bf16)
    {acc : FVec Ideal S1024x512 .f32} (hacc : acc = k0_pay565 (F := Ideal) A B) {g0 g1 g2 g3 w0 w3 : Elt Ideal .f32}
    (h0 : g0 = g (ix1 ⟨(n * 4 + 0) % 8, Nat.mod_lt _ (by decide)⟩)) (h1 : g1 = g (ix1 ⟨(n * 4 + 1) % 8, Nat.mod_lt _ (by decide)⟩))
    (h2 : g2 = g (ix1 ⟨(n * 4 + 2) % 8, Nat.mod_lt _ (by decide)⟩)) (h3 : g3 = g (ix1 ⟨(n * 4 + 3) % 8, Nat.mod_lt _ (by decide)⟩))
    (hw0 : w0 = w (ix1 0)) (hw3 : w3 = w (ix1 0)) :
    ∀ p ∈ ([⟨Rect.unit ![768, 0] ![256, 512] inb_S1024x512_S256x512_768_0, k0_pay1 (F := Ideal) acc g3 w3⟩,
        ⟨Rect.unit ![512, 0] ![256, 512] inb_S1024x512_S256x512_512_0, k0_pay569 (F := Ideal) (k0_pay568 acc g2 w0)⟩,
        ⟨Rect.unit ![256, 0] ![256, 512] inb_S1024x512_S256x512_256_0, k0_pay567 (F := Ideal) acc g1 w0⟩,
        ⟨Rect.unit ![0, 0] ![256, 512] inb_S1024x512_S256x512_0_0, k0_pay566 (F := Ideal) acc g0 w0⟩] : List (View.Piece (Elt Ideal) S1024x512 .bf16)),
      ∀ x, p.2 x = outBlk n g w A B (p.1.emb x) := by
  subst hacc h0 h1 h2 h3 hw0 hw3
  refine List.forall_mem_cons.2 ⟨fun x => ?_, List.forall_mem_cons.2 ⟨fun x => ?_, List.forall_mem_cons.2 ⟨fun x => ?_,
    List.forall_mem_cons.2 ⟨fun x => ?_, fun p hp => absurd hp List.not_mem_nil⟩⟩⟩⟩
  · exact slab_piece n 3 (by decide) g w A B inb_S1024x512_S256x512_768_0 slices_S1024x512_o768_0_S256x512 x
  · exact slab_piece n 2 (by decide) g w A B inb_S1024x512_S256x512_512_0 slices_S1024x512_o512_0_S256x512 x
  · exact slab_piece n 1 (by decide) g w A B inb_S1024x512_S256x512_256_0 slices_S1024x512_o256_0_S256x512 x
  · exact slab_piece n 0 (by decide) g w A B inb_S1024x512_S256x512_0_0 slices_S1024x512_o0_0_S256x512 x

/-- The place of the global scale a row group is scaled by. -/
theorem off_eq (i : grid0.Coords) (q : Fin 4) : k0_off101 i (BitVec.ofNat 32 q.val) = ![((i 0).val * 4 + q.val) % 8] := by
  have h : ∀ (a : Fin 12) (q : Fin 4), (Scalar.indexCast (Scalar.remsi (Scalar.addi (Scalar.muli (BitVec.ofNat 32 a.val) 4#32) (BitVec.ofNat 32 q.val)) 8#32)).toNat
      = (a.val * 4 + q.val) % 8 := by decide
  have := h ⟨(i 0).val, (i 0).isLt⟩ q
  show ![_] = _
  exact congrArg (fun n : ℕ => (![n] : Fin 1 → ℕ)) this

/-- A load of one word of the activations' global scales. -/
theorem g_load (i : grid0.Coords) (q : Fin 4) (arg2 : Memref sig .tc .smem S8 .f32) (harg2 : arg2.IsWhole) (x0 : Vec Ideal S8 .f32)
    {off : Fin 1 → ℕ} (hoff : off = k0_off101 i (BitVec.ofNat 32 q.val)) (inb : ∀ a, off a + S1.size a ≤ S8.size a) (h1 : 0 < S1.numel) :
    View.readAt (Elt Ideal) arg2.view (Rect.unit (s := S8) off S1.size inb).toLoadRect (harg2.unread x0) (Shape.Idx.first h1)
      = x0 (ix1 ⟨((i 0).val * 4 + q.val) % 8, Nat.mod_lt _ (by decide)⟩) := by
  obtain rfl := hoff.trans (off_eq i q)
  rw [View.readAt_eq_ld, harg2.read_unread]
  refine congrArg x0 (funext fun a => Fin.ext ?_)
  match a with
  | ⟨0, _⟩ =>
    show ((i 0).val * 4 + q.val) % 8 + 1 * ((Shape.Idx.first h1) 0).val = _
    have : ((Shape.Idx.first h1) 0).val < 1 := ((Shape.Idx.first h1) 0).isLt
    show ((i 0).val * 4 + q.val) % 8 + 1 * ((Shape.Idx.first h1) 0).val = ((i 0).val * 4 + q.val) % 8
    omega

/-- The load of the weights' global scale. -/
theorem w_load (arg3 : Memref sig .tc .smem S1 .f32) (harg3 : arg3.IsWhole) (x1 : Vec Ideal S1 .f32)
    (inb : ∀ a, (![0] : Fin 1 → ℕ) a + S1.size a ≤ S1.size a) (h1 : 0 < S1.numel) :
    View.readAt (Elt Ideal) arg3.view (Rect.unit (s := S1) ![0] S1.size inb).toLoadRect (harg3.unread x1) (Shape.Idx.first h1) = x1 (ix1 0) := by
  rw [View.readAt_eq_ld, harg3.read_unread]
  refine congrArg x1 (funext fun a => Fin.ext ?_)
  match a with
  | ⟨0, _⟩ =>
    have : ((Shape.Idx.first h1) 0).val < 1 := ((Shape.Idx.first h1) 0).isLt
    show 0 + 1 * ((Shape.Idx.first h1) 0).val = 0
    omega

variable (c : Dev nD) (i : grid0.Coords) (arg2 : Memref sig .tc .smem S8 .f32) (harg2 : arg2.IsWhole) (arg3 : Memref sig .tc .smem S1 .f32) (harg3 :
  arg3.IsWhole) (arg4 : Memref sig .tc .vmem S1024x4096 .i8) (harg4 : arg4.IsWhole) (arg5 : Memref sig .tc .vmem S1024x512 .fp8e4m3) (harg5 :
  arg5.IsWhole) (arg6 : Memref sig .tc .vmem S512x4096 .i8) (harg6 : arg6.IsWhole) (arg7 : Memref sig .tc .vmem S512x512 .fp8e4m3) (harg7 :
  arg7.IsWhole) (arg8 : Memref sig .tc .vmem S1024x512 .bf16) (harg8 : arg8.IsWhole) (arg9 : Memref sig .tc .vmem S1024x8192 .bf16) (harg9 :
  arg9.IsWhole) (arg10 : Memref sig .tc .vmem S512x8192 .bf16) (harg10 : arg10.IsWhole)
  (x0 : Vec Ideal S8 .f32) (x1 : Vec Ideal S1 .f32) (x2 : Vec Ideal S1024x4096 .i8) (x3 : Vec Ideal S1024x512 .fp8e4m3)
  (x4 : Vec Ideal S512x4096 .i8) (x5 : Vec Ideal S512x512 .fp8e4m3)

/-- The block a run's first point leaves: over the rows it dequantizes itself. -/
theorem out_A (hc0 : cond0_0 i) :
    out0_A_6 (F := Ideal) c i arg2 harg2 arg3 harg3 arg4 harg4 arg5 harg5 arg6 harg6 arg7 harg7 arg8 harg8 arg9 harg9 arg10 harg10 hc0 x0 x1 x2 x3 x4 x5
      = outBlk (i 0).val x0 x1 (deq x2 x3) (deq x4 x5) := by
  have hcov := cover0_A_6 (F := Ideal) c i arg2 harg2 arg3 harg3 arg4 harg4 arg5 harg5 arg6 harg6 arg7 harg7 arg8 harg8 arg9 harg9 arg10 harg10 hc0 x0 x1 x2 x3 x4 x5
  unfold out0_A_6
  rw [View.read_writes_eq_canon _ _ _ hcov]
  funext y
  refine View.canon_apply_of_pieces _ _ ?_ y (hcov y)
  unfold kernelRun0_A
  dsimp only
  refine slabs (i 0).val x0 x1 (deq x2 x3) (deq x4 x5) ?_ (g_load i 0 arg2 harg2 x0 rfl _ _) (g_load i 1 arg2 harg2 x0 rfl _ _)
    (g_load i 2 arg2 harg2 x0 rfl _ _) (g_load i 3 arg2 harg2 x0 rfl _ _) (w_load arg3 harg3 x1 _ _) (w_load arg3 harg3 x1 _ _)
  unfold kernelRun0_A.sl.r_100
  exact congrArg₂ (k0_pay565 (F := Ideal))
    (Cert.KernelScratch.scratch_read c i arg2 harg2 arg3 harg3 arg4 harg4 arg5 harg5 arg6 harg6 arg7 harg7 arg8 harg8 arg9 harg9 arg10 harg10 hc0 x0 x1 x2 x3 x4 x5 _ rfl)
    (Cert.KernelWeights.read_eq c arg6 harg6 arg7 harg7 arg10 x4 x5 _ (by sl_kernel_rfl))

/-- The block a later point leaves: over the rows `xs0` the scratch carries. -/
theorem out_B (hc0 : ¬cond0_0 i) (xs0 : Vec Ideal S1024x8192 .bf16) :
    out0_B_6 (F := Ideal) c i arg2 harg2 arg3 harg3 arg4 harg4 arg5 harg5 arg6 harg6 arg7 harg7 arg8 harg8 arg9 harg9 arg10 harg10 hc0 x0 x1 x2 x3 x4 x5 xs0
      = outBlk (i 0).val x0 x1 xs0 (deq x4 x5) := by
  have hcov := cover0_B_6 (F := Ideal) c i arg2 harg2 arg3 harg3 arg4 harg4 arg5 harg5 arg6 harg6 arg7 harg7 arg8 harg8 arg9 harg9 arg10 harg10 hc0 x0 x1 x2 x3 x4 x5 xs0
  unfold out0_B_6
  rw [View.read_writes_eq_canon _ _ _ hcov]
  funext y
  refine View.canon_apply_of_pieces _ _ ?_ y (hcov y)
  unfold kernelRun0_B
  dsimp only
  refine slabs (i 0).val x0 x1 xs0 (deq x4 x5) ?_ (g_load i 0 arg2 harg2 x0 rfl _ _) (g_load i 1 arg2 harg2 x0 rfl _ _)
    (g_load i 2 arg2 harg2 x0 rfl _ _) (g_load i 3 arg2 harg2 x0 rfl _ _) (w_load arg3 harg3 x1 _ _) (w_load arg3 harg3 x1 _ _)
  unfold kernelRun0_B.sl.r_100
  refine congrArg₂ (k0_pay565 (F := Ideal)) ?_ (Cert.KernelWeights.read_eq c arg6 harg6 arg7 harg7 arg10 x4 x5 _ rfl)
  rw [View.readAt_eq_ld, harg9.read_unread]
  exact View.ld_unit_zero (funext fun a => by fin_cases a <;> rfl) _ _

end Cert.KernelOut
-- ==== Proof.KernelArray.lean ====
module

public import proofs.«01_k».proof.Proof.KernelOut
public import proofs.«01_k».proof.Proof.Gen.KernelIdeal.Value

/-
  The kernel's result array at an index, over the arrays its launch reads.
-/

@[expose] public section

set_option maxRecDepth 65536
set_option maxHeartbeats 4000000

noncomputable section

namespace Cert.KernelArray

open Idealize.ShloMosaic hiding ix1 ix2 ix3
open Idealize.ShloMosaic.ValueIdx Idealize.ShloMosaic.TcCoe
open Cert.Chunk Cert.KernelOut Cert.KernelIdeal Cert.KernelIdeal.Gen Cert.KernelIdeal.Value

variable (m : (ℓ : Loc nD τ sig) → Buf (Elt Ideal) ℓ) (c : Dev nD)

/-- The row tile and the column tile of each grid point, as its index maps print them. -/
theorem tiles : ∀ t : Fin cfg0.N, (grid0.coords t 0).val = t.val / 14 ∧ win0_0.index t 0 = 0 ∧ win0_1.index t 0 = 0
    ∧ (win0_2.index t 0 = t.val / 14 ∧ win0_2.index t 1 = 0) ∧ (win0_3.index t 0 = t.val / 14 ∧ win0_3.index t 1 = 0)
    ∧ (win0_4.index t 0 = t.val % 14 ∧ win0_4.index t 1 = 0) ∧ (win0_5.index t 0 = t.val % 14 ∧ win0_5.index t 1 = 0) :=
  (by decide +kernel : ∀ t : Fin grid0.N, (grid0.coords t 0).val = t.val / 14 ∧ win0_0.index t 0 = 0 ∧ win0_1.index t 0 = 0
    ∧ (win0_2.index t 0 = t.val / 14 ∧ win0_2.index t 1 = 0) ∧ (win0_3.index t 0 = t.val / 14 ∧ win0_3.index t 1 = 0)
    ∧ (win0_4.index t 0 = t.val % 14 ∧ win0_4.index t 1 = 0) ∧ (win0_5.index t 0 = t.val % 14 ∧ win0_5.index t 1 = 0))

/-- The grid has 168 points. -/
theorem lt_168 (t : Fin cfg0.N) : t.val < 168 := lt_of_lt_of_eq t.isLt N_0

/-- Rows `o` to `o + M` of an array. -/
def rows {α : Type} {N K : ℕ} (M o : ℕ) (h : o + M ≤ N) (X : (Sh N K).Idx → α) : (Sh M K).Idx → α :=
  fun y => X (ix2 ⟨o + (y 0).val, lt_of_lt_of_le (Nat.add_lt_add_left (y 0).isLt o) h⟩ (y 1))

/-- A band of rows depends only on where it begins, not on the proof that it fits. -/
theorem rows_congr {α : Type} {N K M o o' : ℕ} (e : o = o') (h : o + M ≤ N) (h' : o' + M ≤ N) (X : (Sh N K).Idx → α) :
    rows M o h X = rows M o' h' X := by subst e; rfl

/-- The activations' codes a point reads: its row tile. -/
theorem iblk2_eq (t : Fin cfg0.N) :
    iblk m c 2 t = rows (K := 4096) 1024 (1024 * (t.val / 14)) (by have := lt_168 t; omega) (V m c main_v0) := by
  obtain ⟨-, -, -, ⟨h0, h1⟩, -⟩ := tiles t
  funext j
  unfold iblk rows
  rw [View.read_apply]
  show V m c main_v0 _ = V m c main_v0 _
  refine congrArg _ (funext fun a => Fin.ext ?_)
  match a with
  | ⟨0, _⟩ => show win0_2.index t 0 * 1024 + 1 * (j 0).val = 1024 * (t.val / 14) + (j 0).val; rw [h0]; omega
  | ⟨1, _⟩ => show win0_2.index t 1 * 4096 + 1 * (j 1).val = (j 1).val; rw [h1]; omega

/-- The activations' block scales a point reads: its row tile. -/
theorem iblk3_eq (t : Fin cfg0.N) :
    iblk m c 3 t = rows (K := 512) 1024 (1024 * (t.val / 14)) (by have := lt_168 t; omega) (V m c main_v1) := by
  obtain ⟨-, -, -, -, ⟨h0, h1⟩, -⟩ := tiles t
  funext j
  unfold iblk rows
  rw [View.read_apply]
  show V m c main_v1 _ = V m c main_v1 _
  refine congrArg _ (funext fun a => Fin.ext ?_)
  match a with
  | ⟨0, _⟩ => show win0_3.index t 0 * 1024 + 1 * (j 0).val = 1024 * (t.val / 14) + (j 0).val; rw [h0]; omega
  | ⟨1, _⟩ => show win0_3.index t 1 * 512 + 1 * (j 1).val = (j 1).val; rw [h1]; omega

/-- The weights' codes a point reads: its column tile. -/
theorem iblk4_eq (t : Fin cfg0.N) :
    iblk m c 4 t = rows (K := 4096) 512 (512 * (t.val % 14)) (by omega) (V m c main_arg3) := by
  obtain ⟨-, -, -, -, -, ⟨h0, h1⟩, -⟩ := tiles t
  funext j
  unfold iblk rows
  rw [View.read_apply]
  show V m c main_arg3 _ = V m c main_arg3 _
  refine congrArg _ (funext fun a => Fin.ext ?_)
  match a with
  | ⟨0, _⟩ => show win0_4.index t 0 * 512 + 1 * (j 0).val = 512 * (t.val % 14) + (j 0).val; rw [h0]; omega
  | ⟨1, _⟩ => show win0_4.index t 1 * 4096 + 1 * (j 1).val = (j 1).val; rw [h1]; omega

/-- The weights' block scales a point reads: its column tile. -/
theorem iblk5_eq (t : Fin cfg0.N) :
    iblk m c 5 t = rows (K := 512) 512 (512 * (t.val % 14)) (by omega) (V m c main_arg4) := by
  obtain ⟨-, -, -, -, -, -, ⟨h0, h1⟩⟩ := tiles t
  funext j
  unfold iblk rows
  rw [View.read_apply]
  show V m c main_arg4 _ = V m c main_arg4 _
  refine congrArg _ (funext fun a => Fin.ext ?_)
  match a with
  | ⟨0, _⟩ => show win0_5.index t 0 * 512 + 1 * (j 0).val = 512 * (t.val % 14) + (j 0).val; rw [h0]; omega
  | ⟨1, _⟩ => show win0_5.index t 1 * 512 + 1 * (j 1).val = (j 1).val; rw [h1]; omega

/-- The activations' global scales a point reads: all of them. -/
theorem iblk0_eq (t : Fin cfg0.N) : iblk m c 0 t = V m c main_arg2 := by
  obtain ⟨-, h0, -⟩ := tiles t
  funext j
  unfold iblk
  rw [View.read_apply]
  show V m c main_arg2 _ = V m c main_arg2 _
  refine congrArg _ (funext fun a => Fin.ext ?_)
  match a with
  | ⟨0, _⟩ => show win0_0.index t 0 * 8 + 1 * (j 0).val = (j 0).val; rw [h0]; omega

/-- The weights' global scale. -/
theorem iblk1_eq (t : Fin cfg0.N) : iblk m c 1 t = V m c main_arg5 := by
  obtain ⟨-, -, h0, -⟩ := tiles t
  funext j
  unfold iblk
  rw [View.read_apply]
  show V m c main_arg5 _ = V m c main_arg5 _
  refine congrArg _ (funext fun a => Fin.ext ?_)
  match a with
  | ⟨0, _⟩ => show win0_1.index t 0 * 1 + 1 * (j 0).val = (j 0).val; rw [h0]; omega

/-- What a row tile's first point leaves: its output block, and the row tile dequantized in the scratch. -/
theorem outs_A (t : Fin cfg0.N) (h0 : t.val % 14 = 0) : outsAt0 m c t.val t.isLt =
    (outBlk (t.val / 14) (iblk m c 0 t) (iblk m c 1 t) (deq (iblk m c 2 t) (iblk m c 3 t)) (deq (iblk m c 4 t) (iblk m c 5 t)),
      deq (iblk m c 2 t) (iblk m c 3 t)) := by
  refine (outsAt0_A m c t h0).trans ?_
  rw [out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) (iblk m c 0 t) (iblk m c 1 t) (iblk m c 2 t) (iblk m c 3 t) (iblk m c 4 t) (iblk m c 5 t)
      ((hcond0_0 t).mpr h0),
    Cert.KernelScratch.sout_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) ((hcond0_0 t).mpr h0) (iblk m c 0 t) (iblk m c 1 t) (iblk m c 2 t) (iblk m c 3 t) (iblk m c 4 t) (iblk m c 5 t),
    (tiles t).1]

/-- What a later point of the tile leaves: its output block over the rows `A` the scratch carries, and those rows. -/
theorem outs_B (t : Fin cfg0.N) (h0 : ¬t.val % 14 = 0) (A : Vec Ideal S1024x8192 .bf16)
    (hA : (outsAt0 m c (t.val - 1) (Nat.lt_of_le_of_lt (Nat.sub_le _ _) t.isLt)).2 = A) : outsAt0 m c t.val t.isLt =
    (outBlk (t.val / 14) (iblk m c 0 t) (iblk m c 1 t) A (deq (iblk m c 4 t) (iblk m c 5 t)), A) := by
  refine (outsAt0_B m c t h0).trans ?_
  rw [hA, out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) (iblk m c 0 t) (iblk m c 1 t) (iblk m c 2 t) (iblk m c 3 t) (iblk m c 4 t) (iblk m c 5 t)
      (fun h => h0 ((hcond0_0 t).mp h)) A, (tiles t).1]
  rfl

/-- What point `n` leaves: its output block over its row tile and its column tile, and the row tile dequantized in the
    scratch (stored by the tile's first point, carried by the others). -/
theorem outs_eq : ∀ (n : ℕ) (hn : n < cfg0.N), outsAt0 m c n hn =
    (outBlk (n / 14) (iblk m c 0 ⟨n, hn⟩) (iblk m c 1 ⟨n, hn⟩) (deq (iblk m c 2 ⟨n, hn⟩) (iblk m c 3 ⟨n, hn⟩)) (deq (iblk m c 4 ⟨n, hn⟩) (iblk m c 5 ⟨n, hn⟩)),
      deq (iblk m c 2 ⟨n, hn⟩) (iblk m c 3 ⟨n, hn⟩)) := by
  intro n
  induction n with
  | zero => exact fun hn => outs_A m c ⟨0, hn⟩ (Nat.zero_mod _)
  | succ n ih =>
    intro hn
    by_cases h0 : (n + 1) % 14 = 0
    · exact outs_A m c ⟨n + 1, hn⟩ h0
    · refine outs_B m c ⟨n + 1, hn⟩ h0 _ ((congrArg Prod.snd (ih (Nat.lt_of_succ_lt hn))).trans ?_)
      show deq (iblk m c 2 ⟨n, _⟩) (iblk m c 3 ⟨n, _⟩) = _
      have e : 1024 * (n / 14) = 1024 * ((n + 1) / 14) := by omega
      rw [iblk2_eq, iblk3_eq, iblk2_eq, iblk3_eq]
      exact congrArg₂ deq (rows_congr e _ _ _) (rows_congr e _ _ _)

/-- The kernel's result at an index, over the arrays its launch reads: the dequantized activations times the
    dequantized weights, summed over both halves of the columns, times 4096 and the two global scales. -/
def kerAt (X : IVec (Sh 12288 4096) 8) (S : FVec Ideal (Sh 12288 512) .fp8e4m3) (W : IVec (Sh 7168 4096) 8)
    (T : FVec Ideal (Sh 7168 512) .fp8e4m3) (g w : EReal) (r : Fin 12288) (s : Fin 7168) : EReal :=
  (((∑ K : Fin 8192, deq X S (ix2 r K) * deq W T (ix2 s K)) * ((4096 : ℝ) : EReal) : EReal) * g) * w

/-- Rows dequantized are the dequantized array's rows. -/
theorem deq_rows {N M o : ℕ} (h : o + M ≤ N) (X : IVec (Sh N 4096) 8) (S : FVec Ideal (Sh N 512) .fp8e4m3) (y : Fin M) (r : Fin N)
    (hr : r.val = o + y.val) (K : Fin 8192) : deq (rows M o h X) (rows M o h S) (ix2 y K) = deq X S (ix2 r K) := by
  obtain rfl : r = ⟨o + y.val, lt_of_lt_of_le (Nat.add_lt_add_left y.isLt o) h⟩ := Fin.ext hr
  rfl

/-- The kernel's result array at an index. -/
theorem G6_apply (r : Fin 12288) (s : Fin 7168) : G6 m c (ix2 r s)
    = kerAt (V m c main_v0) (V m c main_v1) (V m c main_arg3) (V m c main_arg4)
        (V m c main_arg2 (ix1 ⟨r.val / 256 % 8, Nat.mod_lt _ (by decide)⟩)) (V m c main_arg5 (ix1 0)) r s := by
  have hr := r.isLt
  have hs := s.isLt
  have ht : 14 * (r.val / 1024) + s.val / 512 < cfg0.N := lt_of_lt_of_eq (by omega) N_0.symm
  have e1 : G6 m c (ix2 r s) = (outsAt0 m c (14 * (r.val / 1024) + s.val / 512) ht).1
      (ix2 ⟨r.val % 1024, Nat.mod_lt _ (by decide)⟩ ⟨s.val % 512, Nat.mod_lt _ (by decide)⟩) := by
    have hp : pt6Of (ix2 r s) = 14 * (r.val / 1024) + s.val / 512 := by
      show 14 * (r.val / 1024 - 0) + 1 * (s.val / 512 - 0) = _; omega
    unfold G6
    rw [dif_pos (hp.trans_lt ht), outsAt0_sweep, fold0_congr m c _ _ _ _ hp]
    refine congrArg _ (funext fun a => ?_)
    match a with
    | ⟨0, _⟩ => rfl
    | ⟨1, _⟩ => rfl
  have eg : (⟨((14 * (r.val / 1024) + s.val / 512) / 14 * 4 + r.val % 1024 / 256) % 8, Nat.mod_lt _ (by decide)⟩ : Fin 8)
      = ⟨r.val / 256 % 8, Nat.mod_lt _ (by decide)⟩ := Fin.ext (by
    show ((14 * (r.val / 1024) + s.val / 512) / 14 * 4 + r.val % 1024 / 256) % 8 = r.val / 256 % 8
    congr 1; omega)
  have eX : ∀ K : Fin 8192, deq (iblk m c 2 ⟨_, ht⟩) (iblk m c 3 ⟨_, ht⟩) (ix2 ⟨r.val % 1024, Nat.mod_lt _ (by decide)⟩ K)
      = deq (V m c main_v0) (V m c main_v1) (ix2 r K) := fun K => by
    rw [iblk2_eq, iblk3_eq]
    exact deq_rows _ (V m c main_v0) (V m c main_v1) _ r (by
      show r.val = 1024 * ((14 * (r.val / 1024) + s.val / 512) / 14) + r.val % 1024; omega) K
  have eW : ∀ K : Fin 8192, deq (iblk m c 4 ⟨_, ht⟩) (iblk m c 5 ⟨_, ht⟩) (ix2 ⟨s.val % 512, Nat.mod_lt _ (by decide)⟩ K)
      = deq (V m c main_arg3) (V m c main_arg4) (ix2 s K) := fun K => by
    rw [iblk4_eq, iblk5_eq]
    exact deq_rows _ (V m c main_arg3) (V m c main_arg4) _ s (by
      show s.val = 512 * ((14 * (r.val / 1024) + s.val / 512) % 14) + s.val % 512; omega) K
  rw [e1, outs_eq]
  show (((∑ K : Fin 8192, deq (iblk m c 2 ⟨_, ht⟩) (iblk m c 3 ⟨_, ht⟩) (ix2 ⟨r.val % 1024, Nat.mod_lt _ (by decide)⟩ K)
      * deq (iblk m c 4 ⟨_, ht⟩) (iblk m c 5 ⟨_, ht⟩) (ix2 ⟨s.val % 512, Nat.mod_lt _ (by decide)⟩ K)) * ((4096 : ℝ) : EReal) : EReal)
    * iblk m c 0 ⟨_, ht⟩ (ix1 ⟨((14 * (r.val / 1024) + s.val / 512) / 14 * 4 + r.val % 1024 / 256) % 8, Nat.mod_lt _ (by decide)⟩))
    * iblk m c 1 ⟨_, ht⟩ (ix1 0) = _
  unfold kerAt
  rw [eg, iblk0_eq, iblk1_eq, Finset.sum_congr rfl (fun K _ => by rw [eX K, eW K])]

/-! ## The arrays the host program computes before the launch -/

/-- The activations' codes as the launch reads them: the argument's batches laid under one another. -/
theorem V_v0 : V m c main_v0 = shapeCast S12288x4096 (m ((c : Thread nD τ).loc main_arg0)) shapeCasts_S6x2048x4096_S12288x4096 := by
  unfold_abbrev_sides
  after_results
  rfl
/-- The activations' block scales as the launch reads them: the argument's batches laid under one another. -/
theorem V_v1 : V m c main_v1 = shapeCast S12288x512 (m ((c : Thread nD τ).loc main_arg1)) shapeCasts_S6x2048x512_S12288x512 := by
  unfold_abbrev_sides
  after_results
  rfl

/-- The kernel's result array at an index, over the arguments as launched. -/
theorem G6_args (r : Fin 12288) (s : Fin 7168) : G6 m c (ix2 r s)
    = kerAt (shapeCast S12288x4096 (m ((c : Thread nD τ).loc main_arg0)) shapeCasts_S6x2048x4096_S12288x4096)
        (shapeCast S12288x512 (m ((c : Thread nD τ).loc main_arg1)) shapeCasts_S6x2048x512_S12288x512)
        (m ((c : Thread nD τ).loc main_arg3)) (m ((c : Thread nD τ).loc main_arg4))
        (m ((c : Thread nD τ).loc main_arg2) (ix1 ⟨r.val / 256 % 8, Nat.mod_lt _ (by decide)⟩))
        (m ((c : Thread nD τ).loc main_arg5) (ix1 0)) r s := by
  rw [G6_apply, V_v0, V_v1, V_main_arg2, V_main_arg3, V_main_arg4, V_main_arg5]

end Cert.KernelArray
-- ==== Proof.ReferenceValue.lean ====
module

public import proofs.«01_k».proof.Proof.Chunk
public import proofs.«01_k».proof.Proof.Gen.ReferenceIdeal.Value
public import Idealize.ShloMosaic.Lib.MatmulPlain

/-
  The reference's kernel at an index: what its one launch stores, over the arrays it is launched on.
-/

@[expose] public section

set_option maxRecDepth 65536
set_option maxHeartbeats 4000000

noncomputable section

namespace Cert.ReferenceValue

open Idealize.ShloMosaic hiding ix1 ix2 ix3
open Idealize.ShloMosaic.ValueIdx
open Cert.Decode Cert.Chunk Cert.ReferenceIdeal Cert.ReferenceIdeal.Gen

variable {R : ℕ}

/-- The decoding of every word of an array. -/
def decV (n : IVec (Sh R 4096) 32) : FVec Ideal (Sh R 4096) .bf16 := fun y => decode (n y)

/-- The reference's block scaling: decoded codes in groups of 8, each times its scale. -/
def groups (n : IVec (Sh R 4096) 32) (S : FVec Ideal (Sh R 512) .fp8e4m3)
    (h1 : (Sh R 4096).ShapeCasts ⟨3, ![R, 512, 8]⟩) (h2 : (⟨3, ![R, 512, 1]⟩ : Shape).Broadcasts ⟨3, ![R, 512, 8]⟩)
    (h3 : (Sh R 512).ShapeCasts ⟨3, ![R, 512, 1]⟩) (h4 : (⟨3, ![R, 512, 8]⟩ : Shape).ShapeCasts (Sh R 4096)) :
    FVec Ideal (Sh R 4096) .bf16 :=
  shapeCast (Sh R 4096) (mulf (shapeCast ⟨3, ![R, 512, 8]⟩ (decV n) h1)
    (broadcastTo ⟨3, ![R, 512, 8]⟩ (shapeCast ⟨3, ![R, 512, 1]⟩ (extf .bf16 S (by decide)) h3) h2)) h4

/-- The block scaling at an index: the decoded code times the scale of its group of 8 columns. -/
theorem groups_apply (n : IVec (Sh R 4096) 32) (S : FVec Ideal (Sh R 512) .fp8e4m3)
    (h1 : (Sh R 4096).ShapeCasts ⟨3, ![R, 512, 8]⟩) (h2 : (⟨3, ![R, 512, 1]⟩ : Shape).Broadcasts ⟨3, ![R, 512, 8]⟩)
    (h3 : (Sh R 512).ShapeCasts ⟨3, ![R, 512, 1]⟩) (h4 : (⟨3, ![R, 512, 8]⟩ : Shape).ShapeCasts (Sh R 4096)) (r : Fin R) (k : Fin 4096) :
    groups n S h1 h2 h3 h4 (ix2 r k) = (decode (n (ix2 r k)) : EReal) * S (ix2 r ⟨k.val / 8, by omega⟩) := by
  have e4 := shapeCast_apply (mulf (shapeCast ⟨3, ![R, 512, 8]⟩ (decV n) h1)
    (broadcastTo ⟨3, ![R, 512, 8]⟩ (shapeCast ⟨3, ![R, 512, 1]⟩ (extf .bf16 S (by decide)) h3) h2)) h4 (ix2 r k)
    (ix3 r (⟨k.val / 8, by omega⟩ : Fin 512) (⟨k.val % 8, by omega⟩ : Fin 8))
    (by
      rw [rowMajor_val3 (σ0 := 4096) (σ1 := 8) _ rfl rfl, rowMajor_val2 (σ0 := 4096) _ rfl]
      show r.val * 4096 + k.val / 8 * 8 + k.val % 8 = r.val * 4096 + k.val
      omega)
  have e1 := shapeCast_apply (decV n) h1 (ix3 r (⟨k.val / 8, by omega⟩ : Fin 512) (⟨k.val % 8, by omega⟩ : Fin 8)) (ix2 r k)
    (by
      rw [rowMajor_val3 (σ0 := 4096) (σ1 := 8) _ rfl rfl, rowMajor_val2 (σ0 := 4096) _ rfl]
      show r.val * 4096 + k.val = r.val * 4096 + k.val / 8 * 8 + k.val % 8
      omega)
  have e2 := broadcastTo_apply (shapeCast ⟨3, ![R, 512, 1]⟩ (extf .bf16 S (by decide)) h3) h2
    (ix3 r (⟨k.val / 8, by omega⟩ : Fin 512) (⟨k.val % 8, by omega⟩ : Fin 8)) (ix3 r (⟨k.val / 8, by omega⟩ : Fin 512) (0 : Fin 1))
    (fun a => by
      match a with
      | ⟨0, _⟩ => show r.val = if R = 1 then 0 else r.val; split <;> omega
      | ⟨1, _⟩ => rfl
      | ⟨2, _⟩ => rfl)
  have e3 := shapeCast_apply (extf .bf16 S (by decide) : FVec Ideal (Sh R 512) .bf16) h3 (ix3 r (⟨k.val / 8, by omega⟩ : Fin 512) (0 : Fin 1))
    (ix2 r (⟨k.val / 8, by omega⟩ : Fin 512))
    (by
      rw [rowMajor_val3 (σ0 := 512) (σ1 := 1) _ rfl rfl, rowMajor_val2 (σ0 := 512) _ rfl]
      show r.val * 512 + k.val / 8 = r.val * 512 + k.val / 8 * 1 + 0
      omega)
  exact e4.trans (congrArg₂ (fun a b : EReal => a * b) e1 (e2.trans e3))

/-- The words of the codes' bytes. -/
def wide (X : IVec (Sh R 4096) 8) : IVec (Sh R 4096) 32 := extui 32 X (by decide)

/-- The dequantized low codes at an index. -/
theorem lo_apply (X : IVec (Sh R 4096) 8) (S : FVec Ideal (Sh R 512) .fp8e4m3) (h1 : (Sh R 4096).ShapeCasts ⟨3, ![R, 512, 8]⟩)
    (h2 : (⟨3, ![R, 512, 1]⟩ : Shape).Broadcasts ⟨3, ![R, 512, 8]⟩) (h3 : (Sh R 512).ShapeCasts ⟨3, ![R, 512, 1]⟩)
    (h4 : (⟨3, ![R, 512, 8]⟩ : Shape).ShapeCasts (Sh R 4096)) (r : Fin R) (k : Fin 4096) :
    groups (andi (wide X) (broadcast (Sh R 4096) 15#32)) S h1 h2 h3 h4 (ix2 r k)
      = ((nib (X (ix2 r k)) 0 : ℝ) : EReal) * S (ix2 r ⟨k.val / 8, by omega⟩) :=
  (groups_apply _ S h1 h2 h3 h4 r k).trans (congrArg (· * _) (decode_lo (X (ix2 r k))))

/-- The dequantized high codes at an index. -/
theorem hi_apply (X : IVec (Sh R 4096) 8) (S : FVec Ideal (Sh R 512) .fp8e4m3) (h1 : (Sh R 4096).ShapeCasts ⟨3, ![R, 512, 8]⟩)
    (h2 : (⟨3, ![R, 512, 1]⟩ : Shape).Broadcasts ⟨3, ![R, 512, 8]⟩) (h3 : (Sh R 512).ShapeCasts ⟨3, ![R, 512, 1]⟩)
    (h4 : (⟨3, ![R, 512, 8]⟩ : Shape).ShapeCasts (Sh R 4096)) (r : Fin R) (k : Fin 4096) :
    groups (shrsi (wide X) (broadcast (Sh R 4096) 4#32)) S h1 h2 h3 h4 (ix2 r k)
      = ((nib (X (ix2 r k)) 4 : ℝ) : EReal) * S (ix2 r ⟨k.val / 8, by omega⟩) :=
  (groups_apply _ S h1 h2 h3 h4 r k).trans (congrArg (· * _) (decode_hi (X (ix2 r k))))

/-- One contraction of the reference at an index. -/
theorem prod_apply (A : FVec Ideal (Sh 12288 4096) .bf16) (B : FVec Ideal (Sh 7168 4096) .bf16) (r : Fin 12288) (s : Fin 7168) :
    matmul dot_S12288x4096_S7168x4096_S12288x7168_1_1_0_0_n_n none A B (constant S12288x7168 .f32 0x00000000#32) (ix2 r s)
      = ∑ k : Fin 4096, A (ix2 r k) * B (ix2 s k) := by
  have h := Ideal.matmul_transposedRhs_apply (M := 12288) (K := 4096) (N := 7168) none A B (constant S12288x7168 .f32 0x00000000#32) r s
  refine Eq.trans (b := FloatOps.matmul (DotDims.transposedRhs 12288 4096 7168) none A B (constant S12288x7168 .f32 0x00000000#32) (ix2 r s)) (by sl_kernel_rfl) (h.trans ?_)
  show Ideal.ofBits .f32 0x00000000#32 + _ = _
  rw [Ideal.ofBits_zero_f32, zero_add]

/-- The reference's kernel over its operands, in its order: the two contractions, their sum, the two global scales. -/
def body (X : IVec (Sh 12288 4096) 8) (S : FVec Ideal (Sh 12288 512) .fp8e4m3) (W : IVec (Sh 7168 4096) 8)
    (T : FVec Ideal (Sh 7168 512) .fp8e4m3) (g : FVec Ideal S12288x1 .f32) (w : FVec Ideal S1x1 .f32) : FVec Ideal S12288x7168 .bf16 :=
  let zero : FVec Ideal S12288x7168 .f32 := constant S12288x7168 .f32 0x00000000#32
  let xl := groups (andi (wide X) (broadcast (Sh 12288 4096) 15#32)) S shapeCasts_S12288x4096_S12288x512x8 broadcasts_S12288x512x1_S12288x512x8
    shapeCasts_S12288x512_S12288x512x1 shapeCasts_S12288x512x8_S12288x4096
  let xh := groups (shrsi (wide X) (broadcast (Sh 12288 4096) 4#32)) S shapeCasts_S12288x4096_S12288x512x8 broadcasts_S12288x512x1_S12288x512x8
    shapeCasts_S12288x512_S12288x512x1 shapeCasts_S12288x512x8_S12288x4096
  let wl := groups (andi (wide W) (broadcast (Sh 7168 4096) 15#32)) T shapeCasts_S7168x4096_S7168x512x8 broadcasts_S7168x512x1_S7168x512x8
    shapeCasts_S7168x512_S7168x512x1 shapeCasts_S7168x512x8_S7168x4096
  let wh := groups (shrsi (wide W) (broadcast (Sh 7168 4096) 4#32)) T shapeCasts_S7168x4096_S7168x512x8 broadcasts_S7168x512x1_S7168x512x8
    shapeCasts_S7168x512_S7168x512x1 shapeCasts_S7168x512x8_S7168x4096
  truncf .bf16 (mulf (mulf (addf (matmul dot_S12288x4096_S7168x4096_S12288x7168_1_1_0_0_n_n none xl wl zero)
      (matmul dot_S12288x4096_S7168x4096_S12288x7168_1_1_0_0_n_n none xh wh zero))
    (broadcastTo S12288x7168 g broadcasts_S12288x1_S12288x7168)) (broadcastTo S12288x7168 w broadcasts_S1x1_S12288x7168)) bitsLt_bf16_f32

/-- The reference's result at an index, over the arrays its kernel reads. -/
def refAt (X : IVec (Sh 12288 4096) 8) (S : FVec Ideal (Sh 12288 512) .fp8e4m3) (W : IVec (Sh 7168 4096) 8)
    (T : FVec Ideal (Sh 7168 512) .fp8e4m3) (g w : EReal) (r : Fin 12288) (s : Fin 7168) : EReal :=
  (((∑ k : Fin 4096, (((nib (X (ix2 r k)) 0 : ℝ) : EReal) * S (ix2 r ⟨k.val / 8, by omega⟩))
        * (((nib (W (ix2 s k)) 0 : ℝ) : EReal) * T (ix2 s ⟨k.val / 8, by omega⟩)))
    + ∑ k : Fin 4096, (((nib (X (ix2 r k)) 4 : ℝ) : EReal) * S (ix2 r ⟨k.val / 8, by omega⟩))
        * (((nib (W (ix2 s k)) 4 : ℝ) : EReal) * T (ix2 s ⟨k.val / 8, by omega⟩))) * g) * w

/-- The body at an index. -/
theorem body_apply (X : IVec (Sh 12288 4096) 8) (S : FVec Ideal (Sh 12288 512) .fp8e4m3) (W : IVec (Sh 7168 4096) 8)
    (T : FVec Ideal (Sh 7168 512) .fp8e4m3) (g : FVec Ideal S12288x1 .f32) (w : FVec Ideal S1x1 .f32) (r : Fin 12288) (s : Fin 7168) :
    body X S W T g w (ix2 r s) = refAt X S W T (g (ix2 r 0)) (w (ix2 0 0)) r s := by
  have eg := broadcastTo_apply g broadcasts_S12288x1_S12288x7168 (ix2 r s) (ix2 r 0) (fun a => by
    match a with
    | ⟨0, _⟩ => rfl
    | ⟨1, _⟩ => rfl)
  have ew := broadcastTo_apply w broadcasts_S1x1_S12288x7168 (ix2 r s) (ix2 0 0) (fun a => by
    match a with
    | ⟨0, _⟩ => rfl
    | ⟨1, _⟩ => rfl)
  refine (congrArg₂ (fun a b : EReal => a * b) (congrArg₂ (fun a b : EReal => a * b)
    (congrArg₂ (fun a b : EReal => a + b) (prod_apply _ _ r s) (prod_apply _ _ r s)) eg) ew).trans ?_
  simp only [lo_apply, hi_apply]
  rfl

/-- What the reference's kernel leaves in its output. -/
theorem out_eq (x0 : Vec Ideal S12288x4096 .i8) (x1 : Vec Ideal S12288x512 .fp8e4m3) (x2 : Vec Ideal S12288x1 .f32) (x3 : Vec Ideal S7168x4096 .i8)
    (x4 : Vec Ideal S7168x512 .fp8e4m3) (x5 : Vec Ideal S1x1 .f32) : out0_6 (F := Ideal) x0 x1 x2 x3 x4 x5 = body x0 x1 x3 x4 x2 x5 := by
  have l0 : View.ld x0 r0_0 = x0 := View.ld_unit_zero (funext fun a => by fin_cases a <;> rfl) _ _
  have l1 : View.ld x1 r0_1 = x1 := View.ld_unit_zero (funext fun a => by fin_cases a <;> rfl) _ _
  have l2 : View.ld x2 r0_4 = x2 := View.ld_unit_zero (funext fun a => by fin_cases a <;> rfl) _ _
  have l3 : View.ld x3 r0_2 = x3 := View.ld_unit_zero (funext fun a => by fin_cases a <;> rfl) _ _
  have l4 : View.ld x4 r0_3 = x4 := View.ld_unit_zero (funext fun a => by fin_cases a <;> rfl) _ _
  have l5 : View.ld x5 r0_5 = x5 := View.ld_unit_zero (funext fun a => by fin_cases a <;> rfl) _ _
  have s0 : shapeCast S12288x4096 x0 shapeCasts_S12288x4096_S12288x4096 = x0 := shapeCast_self _ _
  have s1 : shapeCast S12288x512 x1 shapeCasts_S12288x512_S12288x512 = x1 := shapeCast_self _ _
  have s2 : shapeCast S12288x1 x2 shapeCasts_S12288x1_S12288x1 = x2 := shapeCast_self _ _
  have s5 : shapeCast S1x1 x5 shapeCasts_S1x1_S1x1 = x5 := shapeCast_self _ _
  unfold_out out0_6
  rw [l0, l1, l2, l3, l4, l5]
  refine (View.canon_unit_zero (funext fun a => by fin_cases a <;> rfl) _ _).trans ?_
  refine Eq.trans (b := body (shapeCast S12288x4096 x0 shapeCasts_S12288x4096_S12288x4096) (shapeCast S12288x512 x1 shapeCasts_S12288x512_S12288x512) x3 x4
    (shapeCast S12288x1 x2 shapeCasts_S12288x1_S12288x1) (shapeCast S1x1 x5 shapeCasts_S1x1_S1x1)) (by sl_kernel_rfl) ?_
  rw [s0, s1, s2, s5]

end Cert.ReferenceValue
-- ==== Proof.ReferenceArray.lean ====
module

public import proofs.«01_k».proof.Proof.ReferenceValue

/-
  The reference's result array at an index, over the arguments as launched.
-/

@[expose] public section

set_option maxRecDepth 65536
set_option maxHeartbeats 4000000

noncomputable section

namespace Cert.ReferenceArray

open Idealize.ShloMosaic hiding ix1 ix2 ix3
open Idealize.ShloMosaic.ValueIdx Idealize.ShloMosaic.TcCoe
open Cert.Chunk Cert.ReferenceValue Cert.ReferenceIdeal Cert.ReferenceIdeal.Gen Cert.ReferenceIdeal.Value

variable (m : (ℓ : Loc nD τ sig) → Buf (Elt Ideal) ℓ) (c : Dev nD)

/-! ## The one launch's blocks are whole arrays -/

/-- The launch's one block of this operand is the whole array: reading it gives the array. -/
theorem read_v5 (f : Buf (Elt Ideal) ((c : Thread nD τ).loc main_v5)) : (win0_0.blk t0_0).view.read (Elt Ideal) f = f :=
  Memref.read_access_unit_zero (Elt Ideal) main_v5
    (show (fun a => (win0_0.index t0_0) a * main_v5.ty.shape.size a) = fun _ => 0 from funext fun a => by fin_cases a <;> decide) (fun a => by fin_cases a <;> decide) f
/-- The launch's one block of this operand is the whole array: reading it gives the array. -/
theorem read_v6 (f : Buf (Elt Ideal) ((c : Thread nD τ).loc main_v6)) : (win0_1.blk t0_0).view.read (Elt Ideal) f = f :=
  Memref.read_access_unit_zero (Elt Ideal) main_v6
    (show (fun a => (win0_1.index t0_0) a * main_v6.ty.shape.size a) = fun _ => 0 from funext fun a => by fin_cases a <;> decide) (fun a => by fin_cases a <;> decide) f
/-- The launch's one block of this operand is the whole array: reading it gives the array. -/
theorem read_v4 (f : Buf (Elt Ideal) ((c : Thread nD τ).loc main_v4)) : (win0_2.blk t0_0).view.read (Elt Ideal) f = f :=
  Memref.read_access_unit_zero (Elt Ideal) main_v4
    (show (fun a => (win0_2.index t0_0) a * main_v4.ty.shape.size a) = fun _ => 0 from funext fun a => by fin_cases a <;> decide) (fun a => by fin_cases a <;> decide) f
/-- The launch's one block of this operand is the whole array: reading it gives the array. -/
theorem read_arg3 (f : Buf (Elt Ideal) ((c : Thread nD τ).loc main_arg3)) : (win0_3.blk t0_0).view.read (Elt Ideal) f = f :=
  Memref.read_access_unit_zero (Elt Ideal) main_arg3
    (show (fun a => (win0_3.index t0_0) a * main_arg3.ty.shape.size a) = fun _ => 0 from funext fun a => by fin_cases a <;> decide) (fun a => by fin_cases a <;> decide) f
/-- The launch's one block of this operand is the whole array: reading it gives the array. -/
theorem read_arg4 (f : Buf (Elt Ideal) ((c : Thread nD τ).loc main_arg4)) : (win0_4.blk t0_0).view.read (Elt Ideal) f = f :=
  Memref.read_access_unit_zero (Elt Ideal) main_arg4
    (show (fun a => (win0_4.index t0_0) a * main_arg4.ty.shape.size a) = fun _ => 0 from funext fun a => by fin_cases a <;> decide) (fun a => by fin_cases a <;> decide) f
/-- The launch's one block of this operand is the whole array: reading it gives the array. -/
theorem read_v7 (f : Buf (Elt Ideal) ((c : Thread nD τ).loc main_v7)) : (win0_5.blk t0_0).view.read (Elt Ideal) f = f :=
  Memref.read_access_unit_zero (Elt Ideal) main_v7
    (show (fun a => (win0_5.index t0_0) a * main_v7.ty.shape.size a) = fun _ => 0 from funext fun a => by fin_cases a <;> decide) (fun a => by fin_cases a <;> decide) f
/-- The launch's one block of this operand is the whole array: reading it gives the array. -/
theorem read_v8 (f : Buf (Elt Ideal) ((c : Thread nD τ).loc main_v8)) : (win0_6.blk t0_0).view.read (Elt Ideal) f = f :=
  Memref.read_access_unit_zero (Elt Ideal) main_v8
    (show (fun a => (win0_6.index t0_0) a * main_v8.ty.shape.size a) = fun _ => 0 from funext fun a => by fin_cases a <;> decide) (fun a => by fin_cases a <;> decide) f

/-- The result array is the body's over the arrays the launch reads. -/
theorem arr_eq : (dats m 0 c).arrAt 6 cfg0.N
    = body (V m c main_v5) (V m c main_v6) (V m c main_arg3) (V m c main_arg4) (V m c main_v4) (V m c main_v7) := by
  have hw := blocks6 m c t0_0 (flush0_6 t0_0)
  rw [flushed6, out_eq] at hw
  have e0 : iblk m c 0 t0_0 = V m c main_v5 := read_v5 c _
  have e1 : iblk m c 1 t0_0 = V m c main_v6 := read_v6 c _
  have e2 : iblk m c 2 t0_0 = V m c main_v4 := read_v4 c _
  have e3 : iblk m c 3 t0_0 = V m c main_arg3 := read_arg3 c _
  have e4 : iblk m c 4 t0_0 = V m c main_arg4 := read_arg4 c _
  have e5 : iblk m c 5 t0_0 = V m c main_v7 := read_v7 c _
  rw [e0, e1, e2, e3, e4, e5] at hw
  exact (read_v8 c _).symm.trans hw

/-! ## The arrays the host program computes before the launch -/

/-- The codes as the launch reads them: the argument with its batches laid under one another. -/
theorem V_v5 : V m c main_v5 = shapeCast S12288x4096 (m ((c : Thread nD τ).loc main_arg0)) shapeCasts_S6x2048x4096_S12288x4096 := by
  unfold_abbrev_sides
  after_results
  rfl
/-- The block scales as the launch reads them: the argument with its batches laid under one another. -/
theorem V_v6 : V m c main_v6 = shapeCast S12288x512 (m ((c : Thread nD τ).loc main_arg1)) shapeCasts_S6x2048x512_S12288x512 := by
  unfold_abbrev_sides
  after_results
  rfl
/-- The global scale of the weights as the launch reads it. -/
theorem V_v7 : V m c main_v7 = shapeCast S1x1 (m ((c : Thread nD τ).loc main_arg5)) shapeCasts_S1_S1x1 := by
  unfold_abbrev_sides
  after_results
  rfl
/-- The global scales of the rows as the launch reads them: each repeated over its segment, and the same in every batch. -/
theorem V_v4 : V m c main_v4 = shapeCast S12288x1 (broadcastInDim S6x2048x1 ![0, 1, 2] bcast_S1x2048x1_S6x2048x1_0_1_2
      (shapeCast S1x2048x1 (shapeCast S2048 (broadcastInDim S8x256 ![0] bcast_S8_S8x256_0 (m ((c : Thread nD τ).loc main_arg2)))
        shapeCasts_S8x256_S2048) shapeCasts_S2048_S1x2048x1)) shapeCasts_S6x2048x1_S12288x1 := by
  unfold_abbrev_sides
  after_results
  rfl

/-- The weights' global scale the launch reads. -/
theorem v7_apply : V m c main_v7 (ix2 0 0) = m ((c : Thread nD τ).loc main_arg5) (ix1 0) := by
  rw [V_v7]
  exact shapeCast_apply (s := S1) _ shapeCasts_S1_S1x1 (ix2 0 0) (ix1 0) (by
    rw [rowMajor_val1, rowMajor_val2 (σ0 := 1) _ rfl]; rfl)

/-- The activations' global scale of a row: that of its group of 256 among the 2048 rows of its matrix. -/
theorem v4_apply (r : Fin 12288) : V m c main_v4 (ix2 r 0)
    = m ((c : Thread nD τ).loc main_arg2) (ix1 ⟨r.val / 256 % 8, Nat.mod_lt _ (by decide)⟩) := by
  have hr := r.isLt
  rw [V_v4]
  refine (shapeCast_apply _ shapeCasts_S6x2048x1_S12288x1 (ix2 r 0)
    (ix3 (⟨r.val / 2048, by omega⟩ : Fin 6) (⟨r.val % 2048, by omega⟩ : Fin 2048) (0 : Fin 1)) (by
      rw [rowMajor_val3 (σ0 := 2048) (σ1 := 1) _ rfl rfl, rowMajor_val2 (σ0 := 1) _ rfl]
      show r.val / 2048 * 2048 + r.val % 2048 * 1 + 0 = r.val * 1 + 0; omega)).trans ?_
  refine (broadcastInDim_apply _ _ _ _ ( ix3 (0 : Fin 1) (⟨r.val % 2048, by omega⟩ : Fin 2048) (0 : Fin 1)) (fun a => by
      match a with
      | ⟨0, _⟩ => rfl
      | ⟨1, _⟩ => rfl
      | ⟨2, _⟩ => rfl)).trans ?_
  refine (shapeCast_apply _ shapeCasts_S2048_S1x2048x1 _ (ix1 (⟨r.val % 2048, by omega⟩ : Fin 2048)) (by
      rw [rowMajor_val3 (σ0 := 2048) (σ1 := 1) _ rfl rfl, rowMajor_val1]
      show r.val % 2048 = 0 * 2048 + r.val % 2048 * 1 + 0; omega)).trans ?_
  refine (shapeCast_apply _ shapeCasts_S8x256_S2048 _ (ix2 (⟨r.val / 256 % 8, Nat.mod_lt _ (by decide)⟩ : Fin 8) (⟨r.val % 256, by omega⟩ : Fin 256)) (by
      rw [rowMajor_val1, rowMajor_val2 (σ0 := 256) _ rfl]
      show r.val / 256 % 8 * 256 + r.val % 256 = r.val % 2048; omega)).trans ?_
  exact broadcastInDim_apply _ _ _ _ ( ix1 (⟨r.val / 256 % 8, Nat.mod_lt _ (by decide)⟩ : Fin 8)) (fun a => by
      match a with
      | ⟨0, _⟩ => rfl)

/-- The reference's result array at an index. -/
theorem arr_apply (r : Fin 12288) (s : Fin 7168) : (dats m 0 c).arrAt 6 cfg0.N (ix2 r s)
    = refAt (shapeCast S12288x4096 (m ((c : Thread nD τ).loc main_arg0)) shapeCasts_S6x2048x4096_S12288x4096)
        (shapeCast S12288x512 (m ((c : Thread nD τ).loc main_arg1)) shapeCasts_S6x2048x512_S12288x512)
        (m ((c : Thread nD τ).loc main_arg3)) (m ((c : Thread nD τ).loc main_arg4))
        (m ((c : Thread nD τ).loc main_arg2) (ix1 ⟨r.val / 256 % 8, Nat.mod_lt _ (by decide)⟩))
        (m ((c : Thread nD τ).loc main_arg5) (ix1 0)) r s := by
  rw [arr_eq, body_apply, v4_apply, v7_apply, V_v5, V_v6, V_main_arg3, V_main_arg4]

end Cert.ReferenceArray
-- ==== Proof.Equation.lean ====
module

public import proofs.«01_k».proof.Proof.KernelArray
public import proofs.«01_k».proof.Proof.ReferenceArray

/-
  The kernel's formula and the reference's are one extended real at every index, whatever the arrays hold.
-/

@[expose] public section

set_option maxRecDepth 65536
set_option maxHeartbeats 4000000

noncomputable section

namespace Cert.Equation

open Idealize.ShloMosaic hiding ix1 ix2 ix3
open Idealize.ShloMosaic.ValueIdx
open Cert.Decode Cert.Chunk

/-- A positive real factor distributes over a finite sum of extended reals. -/
theorem sum_mul_real {ι : Type} (s : Finset ι) (f : ι → EReal) {a : ℝ} (ha : 0 ≤ a) : (∑ k ∈ s, f k) * (a : EReal) = ∑ k ∈ s, f k * (a : EReal) := by
  classical
  induction s using Finset.induction_on with
  | empty => simp
  | insert k s hk ih =>
    rw [Finset.sum_insert hk, Finset.sum_insert hk, ← ih]
    exact EReal.right_distrib_of_nonneg_of_ne_top (EReal.coe_nonneg.2 ha) (EReal.coe_ne_top a) _ _

/-- One term: the two codes placed in the 8-bit format, each 2⁻⁶ of its value, give the codes' own product once
    multiplied by 4096. -/
theorem term (x w : ℝ) (S T : EReal) : (((x / 64 : ℝ) : EReal) * S * (((w / 64 : ℝ) : EReal) * T)) * ((4096 : ℝ) : EReal)
    = ((x : ℝ) : EReal) * S * (((w : ℝ) : EReal) * T) := by
  have h : ((x / 64 : ℝ) : EReal) * ((w / 64 : ℝ) : EReal) * ((4096 : ℝ) : EReal) = ((x : ℝ) : EReal) * ((w : ℝ) : EReal) := by
    rw [← EReal.coe_mul, ← EReal.coe_mul, ← EReal.coe_mul]
    congr 1
    ring
  calc (((x / 64 : ℝ) : EReal) * S * (((w / 64 : ℝ) : EReal) * T)) * ((4096 : ℝ) : EReal)
      = (((x / 64 : ℝ) : EReal) * ((w / 64 : ℝ) : EReal) * ((4096 : ℝ) : EReal)) * (S * T) := by
        simp only [mul_comm, mul_left_comm, mul_assoc]
    _ = ((x : ℝ) : EReal) * S * (((w : ℝ) : EReal) * T) := by
        rw [h]
        simp only [mul_comm, mul_left_comm, mul_assoc]

/-- A dequantized array at a column of its low half. -/
theorem deq_lo {R : ℕ} (X : IVec (Sh R 4096) 8) (S : FVec Ideal (Sh R 512) .fp8e4m3) (r : Fin R) (k : Fin 4096) :
    deq X S (ix2 r (Fin.castAdd 4096 k)) = ((nib (X (ix2 r k)) 0 / 64 : ℝ) : EReal) * S (ix2 r ⟨k.val / 8, by omega⟩) := by
  have hk := k.isLt
  have e : (⟨k.val % 4096, Nat.mod_lt _ (by decide)⟩ : Fin 4096) = k := Fin.ext (Nat.mod_eq_of_lt hk)
  have e' : (⟨k.val % 4096 / 8, by omega⟩ : Fin 512) = ⟨k.val / 8, by omega⟩ := Fin.ext (by show k.val % 4096 / 8 = k.val / 8; omega)
  show ((nib (X (ix2 r ⟨k.val % 4096, _⟩)) (if k.val < 4096 then 0 else 4) / 64 : ℝ) : EReal) * S (ix2 r ⟨k.val % 4096 / 8, _⟩) = _
  rw [e, e', if_pos hk]

/-- A dequantized array at a column of its high half. -/
theorem deq_hi {R : ℕ} (X : IVec (Sh R 4096) 8) (S : FVec Ideal (Sh R 512) .fp8e4m3) (r : Fin R) (k : Fin 4096) :
    deq X S (ix2 r (Fin.natAdd 4096 k)) = ((nib (X (ix2 r k)) 4 / 64 : ℝ) : EReal) * S (ix2 r ⟨k.val / 8, by omega⟩) := by
  have hk := k.isLt
  have e : (⟨(4096 + k.val) % 4096, Nat.mod_lt _ (by decide)⟩ : Fin 4096) = k := Fin.ext (by show (4096 + k.val) % 4096 = k.val; omega)
  have e' : (⟨(4096 + k.val) % 4096 / 8, by omega⟩ : Fin 512) = ⟨k.val / 8, by omega⟩ := Fin.ext (by show (4096 + k.val) % 4096 / 8 = k.val / 8; omega)
  show ((nib (X (ix2 r ⟨(4096 + k.val) % 4096, _⟩)) (if 4096 + k.val < 4096 then 0 else 4) / 64 : ℝ) : EReal) * S (ix2 r ⟨(4096 + k.val) % 4096 / 8, _⟩) = _
  rw [e, e', if_neg (by omega)]

/-- The kernel's formula is the reference's: its one contraction over 8192 columns is the sum of the two over 4096. -/
theorem ker_eq_ref (X : IVec (Sh 12288 4096) 8) (S : FVec Ideal (Sh 12288 512) .fp8e4m3) (W : IVec (Sh 7168 4096) 8)
    (T : FVec Ideal (Sh 7168 512) .fp8e4m3) (g w : EReal) (r : Fin 12288) (s : Fin 7168) :
    Cert.KernelArray.kerAt X S W T g w r s = Cert.ReferenceValue.refAt X S W T g w r s := by
  unfold Cert.KernelArray.kerAt Cert.ReferenceValue.refAt
  refine congrArg (fun a : EReal => a * g * w) ?_
  rw [sum_mul_real _ _ (by norm_num : (0 : ℝ) ≤ 4096)]
  refine (Fin.sum_univ_add (a := 4096) (b := 4096) fun K : Fin 8192 => deq X S (ix2 r K) * deq W T (ix2 s K) * ((4096 : ℝ) : EReal)).trans ?_
  refine congrArg₂ (fun a b : EReal => a + b) (Finset.sum_congr rfl fun k _ => ?_) (Finset.sum_congr rfl fun k _ => ?_)
  · rw [deq_lo, deq_lo]; exact term _ _ _ _
  · rw [deq_hi, deq_hi]; exact term _ _ _ _

end Cert.Equation
-- ==== Proof.lean ====
/-
  The proof of `Cert.Claim`. The frame claims are the generated frame certificates; the algebraic claim sets the
  kernel's result array (Proof/KernelArray.lean) beside the reference's (Proof/ReferenceArray.lean), index by index
  (Proof/Equation.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelArray
public import proofs.«01_k».proof.Proof.ReferenceArray
public import proofs.«01_k».proof.Proof.Equation
public import Idealize.ShloMosaic.Adequacy
public import Idealize.ShloMosaic.Init

@[expose] public section

set_option maxRecDepth 65536
set_option maxHeartbeats 4000000

noncomputable section

namespace Cert.Proof

open Idealize.ShloMosaic hiding ix1 ix2 ix3
open Idealize.ShloMosaic.ValueIdx Idealize.SL.Sem

/-- From memories that agree on the arguments, the reference's result array is the kernel's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 Cert.ReferenceIdeal.cfg0.N = Cert.KernelIdeal.Value.G6 m c := by
  have h : ∀ (r : Fin 12288) (s : Fin 7168),
      (Cert.ReferenceIdeal.Gen.dats m' 0 c).arrAt 6 Cert.ReferenceIdeal.cfg0.N (ix2 r s) = Cert.KernelIdeal.Value.G6 m c (ix2 r s) := by
    intro r s
    refine (Cert.ReferenceArray.arr_apply m' c r s).trans (Eq.trans ?_ (Cert.KernelArray.G6_args m c r s).symm)
    rw [Cert.Equation.ker_eq_ref, h0, h1, h2, h3, h4, h5]
  funext i
  have hi : i = ix2 (n0 := 12288) (n1 := 7168) (i 0) (i 1) := funext fun a => by
    match a with
    | ⟨0, _⟩ => rfl
    | ⟨1, _⟩ => rfl
  rw [hi]
  exact h (i 0) (i 1)

/-- The algebraic claim: both programs run, and from equal arguments the results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G6 m c, Cert.KernelIdeal.Value.run (F := Ideal) m g, ?_⟩
  refine (θ_run (Cert.ReferenceIdeal.defs (F := Ideal)) _ _).mono (fun r h c => ?_) (Cert.ReferenceIdeal.Value.run_blocks (F := Ideal) m' g')
  obtain ⟨hv, hk⟩ := h c
  obtain ⟨h0, h1, h2, h3, h4, h5⟩ := hargs c
  exact ⟨hv.trans (arrays_eq m m' c h0 h1 h2 h3 h4 h5), hk⟩

/-- Every claim of the certificate: the three frames, the ideal program being the kernel's own, and the algebraic claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
